-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1 : Shape := ⟨1, ![1]⟩
abbrev S1024x8192 : Shape := ⟨2, ![1024, 8192]⟩
abbrev S3x1024x1024 : Shape := ⟨3, ![3, 1024, 1024]⟩
abbrev S4x1024x1024 : Shape := ⟨3, ![4, 1024, 1024]⟩
abbrev S2x1024x1024 : Shape := ⟨3, ![2, 1024, 1024]⟩
abbrev S3 : Shape := ⟨1, ![3]⟩
abbrev S4 : Shape := ⟨1, ![4]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 5
  | .vmem => 5
  | .smem => 2
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S1024x8192, .f32⟩
  | .local _ .vmem, ⟨0, _⟩ => ⟨S1024x8192, .f32⟩
  | .local _ .vmem, ⟨1, _⟩ => ⟨S3x1024x1024, .f32⟩
  | .local _ .vmem, ⟨2, _⟩ => ⟨S4096x1024, .fp8e4m3⟩
  | .local _ .vmem, ⟨3, _⟩ => ⟨S4x1024x1024, .fp8e4m3⟩
  | .local _ .vmem, ⟨4, _⟩ => ⟨S2x1024x1024, .fp8e5m2⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_10 : BitVec 32 := 1#32
  let v14 : BitVec 32 := Scalar.muli v8 c1_i32_10
  let v15 : BitVec 32 := Scalar.addi c0_i32_11 v14
  v15.toNat
def k0_off1 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c1024_i32 : BitVec 32 := 1024#32
  let v16 : BitVec 32 := Scalar.muli v4 c1024_i32
  let c0_i32_52 : BitVec 32 := 0#32
  ![v16.toNat, 0]
def k0_off2 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c1024_i32_70 : BitVec 32 := 1024#32
  let v75 : BitVec 32 := Scalar.muli v4 c1024_i32_70
  let v76 : Index := Scalar.indexCast v75
  let c0_71 : Index := 0#32
  ![v76.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_15 : BitVec 32 := 1024#32
  let v19 : BitVec 32 := Scalar.muli v2 c1024_i32_15
  let c0_i32_76 : BitVec 32 := 0#32
  ![v19.toNat, 0]
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_81 : BitVec 32 := 0#32
  let c0_i32_82 : BitVec 32 := 0#32
  ![v2.toNat, 0, 0]
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_79 : BitVec 32 := 1#32
  let v86 : BitVec 32 := Scalar.muli v4 c1_i32_79
  let v87 : BitVec 32 := Scalar.addi c0_i32_80 v86
  v87.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_16 : BitVec 32 := 1024#32
  let v20 : BitVec 32 := Scalar.muli v2 c1024_i32_16
  let c0_i32_97 : BitVec 32 := 0#32
  ![v20.toNat, 0]
def k0_dev5 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_100 : BitVec 32 := 1#32
  let v114 : BitVec 32 := Scalar.muli v8 c1_i32_100
  let v115 : BitVec 32 := Scalar.addi c0_i32_101 v114
  v115.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_17 : BitVec 32 := 1024#32
  let v21 : BitVec 32 := Scalar.muli v2 c1024_i32_17
  let c1024_i32_118 : BitVec 32 := 1024#32
  ![v21.toNat, 1024]
def k0_dev6 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_121 : BitVec 32 := 1#32
  let v142 : BitVec 32 := Scalar.muli v6 c1_i32_121
  let v143 : BitVec 32 := Scalar.addi c0_i32_122 v142
  v143.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_134 : BitVec 32 := 1024#32
  let v159 : BitVec 32 := Scalar.muli v2 c1024_i32_134
  let v160 : Index := Scalar.indexCast v159
  let c0_135 : Index := 0#32
  ![v160.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_18 : BitVec 32 := 1024#32
  let v22 : BitVec 32 := Scalar.muli v2 c1024_i32_18
  let c2048_i32 : BitVec 32 := 2048#32
  ![v22.toNat, 2048]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_19 : BitVec 32 := 1024#32
  let v23 : BitVec 32 := Scalar.muli v2 c1024_i32_19
  let c3072_i32 : BitVec 32 := 3072#32
  ![v23.toNat, 3072]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_20 : BitVec 32 := 1024#32
  let v24 : BitVec 32 := Scalar.muli v2 c1024_i32_20
  let c4096_i32 : BitVec 32 := 4096#32
  ![v24.toNat, 4096]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_21 : BitVec 32 := 1024#32
  let v25 : BitVec 32 := Scalar.muli v2 c1024_i32_21
  let c5120_i32 : BitVec 32 := 5120#32
  ![v25.toNat, 5120]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_22 : BitVec 32 := 1024#32
  let v26 : BitVec 32 := Scalar.muli v2 c1024_i32_22
  let c6144_i32 : BitVec 32 := 6144#32
  ![v26.toNat, 6144]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_23 : BitVec 32 := 1024#32
  let v27 : BitVec 32 := Scalar.muli v2 c1024_i32_23
  let c7168_i32 : BitVec 32 := 7168#32
  ![v27.toNat, 7168]
def k0_off15 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c1024_i32_24 : BitVec 32 := 1024#32
  let v28 : BitVec 32 := Scalar.muli v8 c1024_i32_24
  let c0_i32_265 : BitVec 32 := 0#32
  ![v28.toNat, 0]
def k0_off16 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c1024_i32_25 : BitVec 32 := 1024#32
  let v29 : BitVec 32 := Scalar.muli v8 c1024_i32_25
  let c1024_i32_288 : BitVec 32 := 1024#32
  ![v29.toNat, 1024]
def k0_off17 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c1024_i32_26 : BitVec 32 := 1024#32
  let v30 : BitVec 32 := Scalar.muli v8 c1024_i32_26
  let c2048_i32_311 : BitVec 32 := 2048#32
  ![v30.toNat, 2048]
def k0_off18 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c1024_i32_27 : BitVec 32 := 1024#32
  let v31 : BitVec 32 := Scalar.muli v8 c1024_i32_27
  let c3072_i32_334 : BitVec 32 := 3072#32
  ![v31.toNat, 3072]
def k0_off19 (d0 : Dev nD) (c3_i32 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  ![v8.toNat]
def k0_off20 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c0_i32_338 : BitVec 32 := 0#32
  let c0_i32_339 : BitVec 32 := 0#32
  ![v8.toNat, 0, 0]
def k0_off21 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let v376 : Index := Scalar.indexCast v8
  let c0_342 : Index := 0#32
  let c0_343 : Index := 0#32
  ![v376.toNat, 0, 0]
def k0_off22 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c1024_i32_28 : BitVec 32 := 1024#32
  let v32 : BitVec 32 := Scalar.muli v8 c1024_i32_28
  let c4096_i32_367 : BitVec 32 := 4096#32
  ![v32.toNat, 4096]
def k0_off23 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c1024_i32_29 : BitVec 32 := 1024#32
  let v33 : BitVec 32 := Scalar.muli v8 c1024_i32_29
  let c5120_i32_393 : BitVec 32 := 5120#32
  ![v33.toNat, 5120]
def k0_off24 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c1024_i32_30 : BitVec 32 := 1024#32
  let v34 : BitVec 32 := Scalar.muli v8 c1024_i32_30
  let c6144_i32_419 : BitVec 32 := 6144#32
  ![v34.toNat, 6144]
def k0_off25 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c1024_i32_31 : BitVec 32 := 1024#32
  let v35 : BitVec 32 := Scalar.muli v8 c1024_i32_31
  let c7168_i32_445 : BitVec 32 := 7168#32
  ![v35.toNat, 7168]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Steps.lean ====
/-
# The kernel's body as a sequence of tile steps

The printed body is one straight line of loads, stores and transfers. This module names its repeating pieces: the fetch
of a staged block, the issue of a later one, a remote copy, one tile of the product. `body_steps` states that the printed
body is these pieces in order.

Blocks are numbered by the order of their staging: block `g` for `g < 4` is a block of rows of `x`, and block
`4 + 8 * h + t` is the tile of the weights in the row block of phase `h` and the column block `t`.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.GemmProof

open Cert.KernelIdeal Cert.KernelIdeal.Gen
open Idealize.ShloMosaic Idealize.ShloMosaic.TcCoe
open Idealize.SL Idealize.SL.Sem

variable {F : FTy → Type} [FloatOps F]

/-! ## Where a device's accesses lie -/

/-- The offsets and target devices one device's body uses, with the bounds its accesses state. -/
structure Places where
  /-- Rows of `x`, and rows of its narrow copy, that step `g` moves. -/
  xr : ℕ → Fin 2 → ℕ
  xr_inb : ∀ g a, xr g a + S1024x1024.size a ≤ S4096x1024.size a
  xr_words : ∀ g, (Rect.unit (s := S4096x1024) (xr g) S1024x1024.size (xr_inb g)).WholeWords (EltTy.packing .fp8e4m3)
  /-- Rows of the narrow copy that step `g` stores. -/
  xv : ℕ → Fin 2 → ℕ
  xv_inb : ∀ g a, xv g a + S1024x1024.size a ≤ S4096x1024.size a
  xv_packed : ∀ g, (Rect.unit (s := S4096x1024) (xv g) S1024x1024.size (xv_inb g)).PackedRows (EltTy.packing .fp8e4m3)
  /-- The tile of the weights of phase `h` and column block `t`. -/
  wo : ℕ → ℕ → Fin 2 → ℕ
  wo_inb : ∀ h t a, wo h t a + S1024x1024.size a ≤ S4096x8192.size a
  /-- The gather slot phase `h` waits for. -/
  gs : ℕ → Fin 3 → ℕ
  gs_inb : ∀ h a, gs h a + S1x1024x1024.size a ≤ S4x1024x1024.size a
  gs_words : ∀ h, (Rect.unit (s := S4x1024x1024) (gs h) S1x1024x1024.size (gs_inb h)).WholeWords (EltTy.packing .fp8e4m3)
  /-- The gather slot phase `h` loads. -/
  gv : ℕ → Fin 3 → ℕ
  gv_inb : ∀ h a, gv h a + S1x1024x1024.size a ≤ S4x1024x1024.size a
  /-- The gather slot this device fills on the others. -/
  gm : Fin 3 → ℕ
  gm_inb : ∀ a, gm a + S1x1024x1024.size a ≤ S4x1024x1024.size a
  gm_words : (Rect.unit (s := S4x1024x1024) gm S1x1024x1024.size gm_inb).WholeWords (EltTy.packing .fp8e4m3)
  /-- The receive semaphore phase `h` waits on. -/
  rs : ℕ → Fin 1 → ℕ
  rs_inb : ∀ h a, rs h a + S1.size a ≤ S4.size a
  /-- The receive semaphore this device's copies credit on the others. -/
  rm : Fin 1 → ℕ
  rm_inb : ∀ a, rm a + S1.size a ≤ S4.size a
  /-- The device signal number `k` goes to. -/
  sg : ℕ → Dev nD
  /-- The device step `g` sends to. -/
  dv : ℕ → Dev nD

/-! ## The buffers and semaphores -/

abbrev xM : Memref sig .tc .hbm S4096x1024 .f32 := Memref.whole main_arg0
abbrev wM : Memref sig .tc .hbm S4096x8192 .f32 := Memref.whole main_arg1
abbrev sxM : Memref sig .tc .smem S1 .f32 := Memref.whole cc0_stg0_0
abbrev swM : Memref sig .tc .smem S1 .f32 := Memref.whole cc0_stg1_0
abbrev oM : Memref sig .tc .vmem S1024x8192 .f32 := Memref.whole cc0_stg2_0
abbrev stM : Memref sig .tc .vmem S3x1024x1024 .f32 := Memref.whole cc0_scratch0
abbrev xqM : Memref sig .tc .vmem S4096x1024 .fp8e4m3 := Memref.whole cc0_scratch1
abbrev xgM : Memref sig .tc .vmem S4x1024x1024 .fp8e4m3 := Memref.whole cc0_scratch2
abbrev wqM : Memref sig .tc .vmem S2x1024x1024 .fp8e5m2 := Memref.whole cc0_scratch3

theorem hxqM : xqM.IsWhole := Memref.isWhole_whole _
theorem hxgM : xgM.IsWhole := Memref.isWhole_whole _
theorem hwqM : wqM.IsWhole := Memref.isWhole_whole _

/-- The runtime's barrier semaphore of collective id 0. -/
abbrev barS : Sem sig := (SemArray.scalar (sig.barrier 0 rfl) : Sems sig S_).sem

theorem stg_inb (g : ℕ) : ∀ a, (![g % 3, 0, 0] : Fin 3 → ℕ) a + S1x1024x1024.size a ≤ S3x1024x1024.size a := by
  have : g % 3 < 3 := Nat.mod_lt _ (by decide)
  intro a; fin_cases a
  · show g % 3 + 1 ≤ 3; omega
  · show 0 + 1024 ≤ 1024; omega
  · show 0 + 1024 ≤ 1024; omega

theorem sem3_inb (g : ℕ) : ∀ a, (![g % 3] : Fin 1 → ℕ) a + S1.size a ≤ S3.size a := by
  have : g % 3 < 3 := Nat.mod_lt _ (by decide)
  intro a; fin_cases a; show g % 3 + 1 ≤ 3; omega

theorem wq_inb (j : ℕ) : ∀ a, (![j % 2, 0, 0] : Fin 3 → ℕ) a + S1x1024x1024.size a ≤ S2x1024x1024.size a := by
  have : j % 2 < 2 := Nat.mod_lt _ (by decide)
  intro a; fin_cases a
  · show j % 2 + 1 ≤ 2; omega
  · show 0 + 1024 ≤ 1024; omega
  · show 0 + 1024 ≤ 1024; omega

theorem wq_packed (j : ℕ) : (Rect.unit (s := S2x1024x1024) ![j % 2, 0, 0] S1x1024x1024.size (wq_inb j)).PackedRows (EltTy.packing .fp8e5m2) := by
  have h : j % 2 = 0 ∨ j % 2 = 1 := by omega
  have h0 : ∀ hi, (Rect.unit (s := S2x1024x1024) ![0, 0, 0] S1x1024x1024.size hi).PackedRows (EltTy.packing .fp8e5m2) :=
    fun _ => packedfp8e5m2_S2x1024x1024_S1x1024x1024_0_0_0
  have h1 : ∀ hi, (Rect.unit (s := S2x1024x1024) ![1, 0, 0] S1x1024x1024.size hi).PackedRows (EltTy.packing .fp8e5m2) :=
    fun _ => packedfp8e5m2_S2x1024x1024_S1x1024x1024_1_0_0
  have key : ∀ n, (n = 0 ∨ n = 1) → ∀ hi, (Rect.unit (s := S2x1024x1024) ![n, 0, 0] S1x1024x1024.size hi).PackedRows (EltTy.packing .fp8e5m2) := by
    rintro n (rfl | rfl)
    · exact h0
    · exact h1
  exact key _ h _

theorem out_inb (t : ℕ) : ∀ a, (![0, 1024 * (t % 8)] : Fin 2 → ℕ) a + S1024x1024.size a ≤ S1024x8192.size a := by
  have : t % 8 < 8 := Nat.mod_lt _ (by decide)
  intro a; fin_cases a
  · show 0 + 1024 ≤ 1024; omega
  · show 1024 * (t % 8) + 1024 ≤ 8192; omega

/-- The rectangle of the staging slot of block `g`, of the narrow weights' slot of tile `j`, of the output's column block `t`. -/
abbrev stR (g : ℕ) : Rect S3x1024x1024 := Rect.unit (s := S3x1024x1024) ![g % 3, 0, 0] S1x1024x1024.size (stg_inb g)
abbrev wqR (j : ℕ) : Rect S2x1024x1024 := Rect.unit (s := S2x1024x1024) ![j % 2, 0, 0] S1x1024x1024.size (wq_inb j)
abbrev oR (t : ℕ) : Rect S1024x8192 := Rect.unit (s := S1024x8192) ![0, 1024 * (t % 8)] S1024x1024.size (out_inb t)
abbrev oneR : Rect S1 := Rect.unit (s := S1) ![0] S1.size inb_S1_S1_0

/-- The staging slot of block `g` as a transfer names it, and its semaphore. -/
abbrev stSlot (g : ℕ) : Memref sig .tc .vmem S1024x1024 .f32 :=
  (stM.slice (stR g) (fun _ => rfl)).squeeze S1024x1024 squeezes_S1x1024x1024_S1024x1024
abbrev stSem (g : ℕ) : DmaSem sig := ((cc0_scratch4.slice (Rect.unit (s := S3) ![g % 3] S1.size (sem3_inb g))).squeeze S_ squeezes_S1_S_).sem
/-- The send semaphore of step `g`. -/
abbrev sdSem (g : ℕ) : DmaSem sig := ((cc0_scratch5.slice (Rect.unit (s := S3) ![g % 3] S1.size (sem3_inb g))).squeeze S_ squeezes_S1_S_).sem
/-- The receive semaphore at an offset. -/
abbrev rcSem (o : Fin 1 → ℕ) (ho : ∀ a, o a + S1.size a ≤ S4.size a) : DmaSem sig :=
  ((cc0_scratch6.slice (Rect.unit (s := S4) o S1.size ho)).squeeze S_ squeezes_S1_S_).sem
/-- The gather slot at an offset, as a transfer names it. -/
abbrev xgSlot (o : Fin 3 → ℕ) (ho : ∀ a, o a + S1x1024x1024.size a ≤ S4x1024x1024.size a) : Memref sig .tc .vmem S1024x1024 .fp8e4m3 :=
  (xgM.slice (Rect.unit (s := S4x1024x1024) o S1x1024x1024.size ho) (fun _ => rfl)).squeeze S1024x1024 squeezes_S1x1024x1024_S1024x1024
/-- A block of rows of `x`, of its narrow copy, a tile of the weights. -/
abbrev xBlk (o : Fin 2 → ℕ) (ho : ∀ a, o a + S1024x1024.size a ≤ S4096x1024.size a) : Memref sig .tc .hbm S1024x1024 .f32 :=
  xM.slice (Rect.unit (s := S4096x1024) o S1024x1024.size ho) (fun _ => rfl)
abbrev xqBlk (o : Fin 2 → ℕ) (ho : ∀ a, o a + S1024x1024.size a ≤ S4096x1024.size a) : Memref sig .tc .vmem S1024x1024 .fp8e4m3 :=
  xqM.slice (Rect.unit (s := S4096x1024) o S1024x1024.size ho) (fun _ => rfl)
abbrev wBlk (o : Fin 2 → ℕ) (ho : ∀ a, o a + S1024x1024.size a ≤ S4096x8192.size a) : Memref sig .tc .hbm S1024x1024 .f32 :=
  wM.slice (Rect.unit (s := S4096x8192) o S1024x1024.size ho) (fun _ => rfl)

/-! ## The pieces -/

abbrev TP (F : FTy → Type) [FloatOps F] : Type 1 := Prog (TpuEff nD τ sig (Elt F) Λ₀ .tc) PUnit

/-- Start the staging of a block `src` into slot `g`. -/
def issue (g : ℕ) (src : Memref sig .tc .hbm S1024x1024 .f32) (K : TP F) : TP F :=
  .op (.enqueueDma src (.here (stSlot g)) (.dma (stSem g)) (View.wordExact_bits rfl) ((View.wordExact_bits rfl).reshape _ _) ⟨Or.inl rfl, trivial⟩) fun _ => K

/-- Wait for the staging of `src` into slot `g`, and read the slot. -/
def arrive (g : ℕ) (src : Memref sig .tc .hbm S1024x1024 .f32) (K : Vec F S1x1024x1024 .f32 → TP F) : TP F :=
  .op (.waitDma2 (stSem g) src (stSlot g) (View.wordExact_bits rfl) ((View.wordExact_bits rfl).reshape _ _)) fun _ =>
  .op (.load stM (stR g).toLoadRect (View.loadsAt_vmem h_S1x1024x1024)) K

variable (P : Places)

/-- Step `g < 4` up to its store: the staged rows of `x`, narrowed. -/
def fetchX (g : ℕ) (K : TP F) : TP F :=
  arrive g (xBlk (P.xr g) (P.xr_inb g)) fun v =>
  .op (.load xqM (Rect.unit (s := S4096x1024) (P.xv g) S1024x1024.size (P.xv_inb g)).toLoadRect (View.loadsAt_vmem h_S1024x1024)) fun _ =>
  .op (.store xqM (Rect.unit (s := S4096x1024) (P.xv g) S1024x1024.size (P.xv_inb g)) (k0_pay1 v) Finset.univ
    (View.stores_vmem h_S1024x1024 (hxqM.storeExact_slice rfl _ (P.xv_packed g)) (fun _ => rfl)) (.inl rfl)) fun _ => K

/-- The remote copy of step `g < 3`. -/
def send (g : ℕ) (K : TP F) : TP F :=
  .op (.enqueueDma (xqBlk (P.xr g) (P.xr_inb g)) (.remote (Dev.tc (P.dv g)) (xgSlot P.gm P.gm_inb) (.dma (sdSem g))) (.dma (rcSem P.rm P.rm_inb))
    (hxqM.wordExact_slice rfl _ (P.xr_words g)) ((hxgM.wordExact_slice rfl _ P.gm_words).reshape _ _) ⟨⟨rfl, Or.inl rfl⟩, trivial⟩) fun _ => K

/-- The wait for the remote copy of step `g` to have left. -/
def sent (g : ℕ) (K : TP F) : TP F :=
  .op (.waitDma2 (sdSem g) (xgSlot P.gm P.gm_inb) (xqBlk (P.xr g) (P.xr_inb g)) ((hxgM.wordExact_slice rfl _ P.gm_words).reshape _ _)
    (hxqM.wordExact_slice rfl _ (P.xr_words g))) fun _ => K

/-- The wait for the block phase `h` multiplies by. -/
def arrived (h : ℕ) (K : TP F) : TP F :=
  .op (.waitDma2 (rcSem (P.rs h) (P.rs_inb h))
    (xqM.slice (Rect.unit (s := S4096x1024) ![0, 0] S1024x1024.size inb_S4096x1024_S1024x1024_0_0) (fun _ => rfl)) (xgSlot (P.gs h) (P.gs_inb h))
    (hxqM.wordExact_slice rfl _ wordsfp8e4m3_S4096x1024_S1024x1024_0_0) ((hxgM.wordExact_slice rfl _ (P.gs_words h)).reshape _ _)) fun _ => K

/-- The staged tile of phase `h` and column block `t`, narrowed into its slot, and the staging of the tile three later. -/
def fetchW (h t : ℕ) (K : TP F) : TP F :=
  arrive (4 + 8 * h + t) (wBlk (P.wo h t) (P.wo_inb h t)) fun v =>
  .op (.load wqM (wqR t).toLoadRect (View.loadsAt_vmem h_S1x1024x1024)) fun _ =>
  .op (.store wqM (wqR t) (k0_pay8 v) Finset.univ
    (View.stores_vmem h_S1x1024x1024 (hwqM.storeExact_slice rfl _ (wq_packed t)) (fun _ => rfl)) (.inl rfl)) fun _ =>
  if t < 5 then issue (4 + 8 * h + t + 3) (wBlk (P.wo h (t + 3)) (P.wo_inb h (t + 3))) K
  else if h < 3 then issue (4 + 8 * h + t + 3) (wBlk (P.wo (h + 1) (t - 5)) (P.wo_inb (h + 1) (t - 5))) K
  else K

/-- The read of the narrowed tile. -/
def readW (t : ℕ) (K : Vec F S1x1024x1024 .fp8e5m2 → TP F) : TP F :=
  .op (.load wqM (wqR t).toLoadRect (View.loadsAt_vmem h_S1x1024x1024)) K
/-- The read of the output's column block. -/
def readO (t : ℕ) (K : Vec F S1024x1024 .f32 → TP F) : TP F :=
  .op (.load oM (oR t).toLoadRect (View.loadsAt_vmem h_S1024x1024)) K
/-- The read of the block phase `h` multiplies by. -/
def readG (h : ℕ) (K : Vec F S1x1024x1024 .fp8e4m3 → TP F) : TP F :=
  .op (.load xgM (Rect.unit (s := S4x1024x1024) (P.gv h) S1x1024x1024.size (P.gv_inb h)).toLoadRect (View.loadsAt_vmem h_S1x1024x1024)) K
/-- The write of the output's column block. -/
def putO (t : ℕ) (v : Vec F S1024x1024 .f32) (K : TP F) : TP F :=
  .op (.store oM (oR t) v Finset.univ (View.stores_vmem_bits_univ h_S1024x1024 rfl) (.inl rfl)) fun _ => K

/-- A tile of the first phase: this device's own rows. -/
def tileOwn (t : ℕ) (K : TP F) : TP F :=
  fetchW P 0 t <|
  .op (.load xqM (Rect.unit (s := S4096x1024) (P.xv 3) S1024x1024.size (P.xv_inb 3)).toLoadRect (View.loadsAt_vmem h_S1024x1024)) fun a =>
  readW t fun b => readO t fun _ => putO t (k0_pay7 a b) K

/-- The wait before the first tile of a later phase. -/
def gate (h t : ℕ) (K : TP F) : TP F := if t = 0 then arrived P h K else K

/-- A tile of a middle phase: accumulate. -/
def tileAcc (h t : ℕ) (K : TP F) : TP F :=
  fetchW P h t <| gate P h t <| readG P h fun a => readW t fun b => readO t fun o => readO t fun _ => putO t (k0_pay24 a b o) K

/-- A tile of the last phase: accumulate and apply the epilogue. -/
def tileFin (t : ℕ) (K : TP F) : TP F :=
  fetchW P 3 t <| gate P 3 t <| readG P 3 fun a => readW t fun b => readO t fun o =>
  smemLoadElt sxM oneR (View.loads_smem_one rfl numel1_S1) (Shape.Idx.first (numel1_S1.symm ▸ Nat.one_pos)) fun sx =>
  smemLoadElt swM oneR (View.loads_smem_one rfl numel1_S1) (Shape.Idx.first (numel1_S1.symm ▸ Nat.one_pos)) fun sw =>
  readO t fun _ => putO t (k0_pay66 a b o sx sw) K

/-- The last `n` of eight tiles. -/
def tiles (f : ℕ → TP F → TP F) : ℕ → TP F → TP F
  | 0, K => K
  | n + 1, K => f (7 - n) (tiles f n K)

/-- The part before the tiles: the rows of `x` narrowed, three blocks of them sent. -/
def headSteps (K : TP F) : TP F :=
  issue 0 (xBlk (P.xr 0) (P.xr_inb 0)) <| issue 1 (xBlk (P.xr 1) (P.xr_inb 1)) <| issue 2 (xBlk (P.xr 2) (P.xr_inb 2)) <|
  fetchX P 0 <| issue 3 (xBlk (P.xr 3) (P.xr_inb 3)) <| send P 0 <|
  fetchX P 1 <| issue 4 (wBlk (P.wo 0 0) (P.wo_inb 0 0)) <| send P 1 <|
  fetchX P 2 <| issue 5 (wBlk (P.wo 0 1) (P.wo_inb 0 1)) <| send P 2 <|
  fetchX P 3 <| issue 6 (wBlk (P.wo 0 2) (P.wo_inb 0 2)) K

/-- The tiles. -/
def tileSteps (K : TP F) : TP F :=
  tiles (tileOwn P) 8 <| tiles (tileAcc P 1) 8 <| tiles (tileAcc P 2) 8 <| tiles (tileFin P) 8 K

/-- The body on a device with these places. -/
def deviceSteps : TP F :=
  .op (.semSignal (P.sg 0, .tc) barS (1#32).toInt) fun _ => .op (.semSignal (P.sg 1, .tc) barS (1#32).toInt) fun _ =>
  .op (.semSignal (P.sg 2, .tc) barS (1#32).toInt) fun _ => .op (.semWait barS (3#32).toInt) fun _ =>
  headSteps P <| tileSteps P <| sent P 0 <| sent P 1 <| sent P 2 <| .ret ⟨⟩

/-! ## The printed body's places -/

/-- The weights' tiles of a phase after the first: row block `r + 1` places on. -/
def wrow (c : Dev nD) (r : Fin 3) : ℕ → Fin 2 → ℕ
  | 0 => k0_off15 c (BitVec.ofNat 32 (1 + r.val))
  | 1 => k0_off16 c (BitVec.ofNat 32 (1 + r.val))
  | 2 => k0_off17 c (BitVec.ofNat 32 (1 + r.val))
  | 3 => k0_off18 c (BitVec.ofNat 32 (1 + r.val))
  | 4 => k0_off22 c (BitVec.ofNat 32 (1 + r.val))
  | 5 => k0_off23 c (BitVec.ofNat 32 (1 + r.val))
  | 6 => k0_off24 c (BitVec.ofNat 32 (1 + r.val))
  | _ => k0_off25 c (BitVec.ofNat 32 (1 + r.val))

/-- The weights' tiles of the first phase. -/
def wown (c : Dev nD) : ℕ → Fin 2 → ℕ
  | 0 => k0_off6 c
  | 1 => k0_off7 c
  | 2 => k0_off9 c
  | 3 => k0_off10 c
  | 4 => k0_off11 c
  | 5 => k0_off12 c
  | 6 => k0_off13 c
  | _ => k0_off14 c

theorem wrow_inb (c : Dev nD) (r : Fin 3) (t : ℕ) (a : Fin 2) : wrow c r t a + S1024x1024.size a ≤ S4096x8192.size a := by
  unfold wrow; split
  exacts [k0_off15_inb c r a, k0_off16_inb c r a, k0_off17_inb c r a, k0_off18_inb c r a, k0_off22_inb c r a, k0_off23_inb c r a,
    k0_off24_inb c r a, k0_off25_inb c r a]

theorem wown_inb (c : Dev nD) (t : ℕ) (a : Fin 2) : wown c t a + S1024x1024.size a ≤ S4096x8192.size a := by
  unfold wown; split
  exacts [k0_off6_inb c a, k0_off7_inb c a, k0_off9_inb c a, k0_off10_inb c a, k0_off11_inb c a, k0_off12_inb c a, k0_off13_inb c a,
    k0_off14_inb c a]

/-- How far on, less one, the row block of step `n` (0, 1, 2) of the sends lies: right, left, opposite. -/
def sendHop : ℕ → Fin 3
  | 0 => 0
  | 1 => 2
  | _ => 1
/-- The same for the phases 1, 2, 3: left, right, opposite. -/
def phaseHop : ℕ → Fin 3
  | 1 => 2
  | 2 => 0
  | _ => 1

/-- The rows of `x` step `g` moves, and the rows of the narrow copy it stores. -/
def xrows (c : Dev nD) : ℕ → Fin 2 → ℕ
  | 3 => k0_off3 c
  | g => k0_off1 c (BitVec.ofNat 32 (1 + (sendHop g).val))
def xstores (c : Dev nD) : ℕ → Fin 2 → ℕ
  | 3 => k0_off8 c
  | g => k0_off2 c (BitVec.ofNat 32 (1 + (sendHop g).val))

theorem xrows_inb (c : Dev nD) (g : ℕ) : ∀ a, xrows c g a + S1024x1024.size a ≤ S4096x1024.size a := by
  unfold xrows; split; exacts [k0_off3_inb c, k0_off1_inb c _]
theorem xstores_inb (c : Dev nD) (g : ℕ) : ∀ a, xstores c g a + S1024x1024.size a ≤ S4096x1024.size a := by
  unfold xstores; split; exacts [k0_off8_inb c, k0_off2_inb c _]
theorem own_words : ∀ c : Dev nD, (Rect.unit (s := S4096x1024) (k0_off3 c) S1024x1024.size (k0_off3_inb c)).WholeWords (EltTy.packing .fp8e4m3) := by
  decide +kernel
theorem xrows_words (c : Dev nD) (g : ℕ) : ∀ hi, (Rect.unit (s := S4096x1024) (xrows c g) S1024x1024.size hi).WholeWords (EltTy.packing .fp8e4m3) := by
  unfold xrows; split; exacts [fun _ => own_words c, fun _ => k0_off1_wordsfp8e4m3 c _]
theorem xstores_packed (c : Dev nD) (g : ℕ) : ∀ hi, (Rect.unit (s := S4096x1024) (xstores c g) S1024x1024.size hi).PackedRows (EltTy.packing .fp8e4m3) := by
  unfold xstores; split; exacts [fun _ => k0_off8_packedfp8e4m3 c, fun _ => k0_off2_packedfp8e4m3 c _]

/-- The places the printed body uses on device `c`. -/
def places (c : Dev nD) : Places where
  xr := xrows c
  xr_inb := xrows_inb c
  xr_words g := xrows_words c g _
  xv := xstores c
  xv_inb := xstores_inb c
  xv_packed g := xstores_packed c g _
  wo h t := match h with | 0 => wown c t | h => wrow c (phaseHop h) t
  wo_inb h t := by split; exacts [wown_inb c t, wrow_inb c _ t]
  gs h := k0_off20 c (BitVec.ofNat 32 (1 + (phaseHop h).val))
  gs_inb h := k0_off20_inb c _
  gs_words h := k0_off20_wordsfp8e4m3 c _
  gv h := k0_off21 c (BitVec.ofNat 32 (1 + (phaseHop h).val))
  gv_inb h := k0_off21_inb c _
  gm := k0_off5 c
  gm_inb := k0_off5_inb c
  gm_words := k0_off5_wordsfp8e4m3 c
  rs h := k0_off19 c (BitVec.ofNat 32 (1 + (phaseHop h).val))
  rs_inb h := k0_off19_inb c _
  rm := k0_off4 c
  rm_inb := k0_off4_inb c
  sg k := match k with | 0 => ⟨k0_dev1 c, k0_dev1_lt c⟩ | 1 => ⟨k0_dev2 c, k0_dev2_lt c⟩ | _ => ⟨k0_dev3 c, k0_dev3_lt c⟩
  dv g := match g with | 0 => ⟨k0_dev4 c, k0_dev4_lt c⟩ | 1 => ⟨k0_dev5 c, k0_dev5_lt c⟩ | _ => ⟨k0_dev6 c, k0_dev6_lt c⟩

set_option maxRecDepth 65536 in
/-- The printed body is the pieces in order, at the places of the device it reads. -/
theorem body_steps (t : Fin cfg0.N) :
    bodyAt0 (F := F) t = .op .deviceId fun c => deviceSteps (places c) := by
  show cc0_body (F := F) xM _ wM _ sxM _ swM _ oM _ stM _ xqM _ xgM _ wqM _ cc0_scratch4 cc0_scratch5 cc0_scratch6 = _
  rfl

end Cert.GemmProof
-- ==== Proof.Protocol.lean ====
/-
# The protocol of the gathered product

Device `c` computes the rows `c` of the product. It narrows the four row blocks of its own columns of `x`, keeps block `c`
and copies block `r` into slot `c` of device `r`'s gather buffer. So slot `s` of the gather buffer of device `c` receives
the rows `c` of the columns of device `s`.

* The barrier cell of `c` has one duty for every other device `d`, named `d`: one unit, with the landing slot `c` of `d`.
* The receive cell `s` of `c` has one duty, paid by the copy of `s`: the slot `s` of `c` with the narrowed block in it.
* The send cell `g` of `c` has one duty, paid by the copy of step `g`: the lent rows of the narrow copy of `x`.

Every cell has one round. Barrier cells lie at level 1, receive cells at level 2, all others at level 0.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.GemmProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The mesh -/

/-- The device `k` places on. -/
def sh (k : ℕ) (c : Dev nD) : Dev nD := ⟨(c.val + k) % 4, Nat.mod_lt _ (by decide)⟩

/-- The row block step `g` moves: right, left, opposite, own. -/
def xrow (c : Dev nD) : ℕ → Dev nD
  | 3 => c
  | g => sh ((sendHop g).val + 1) c
/-- The device whose columns phase `h` multiplies: own, left, right, opposite. -/
def krow (c : Dev nD) : ℕ → Dev nD
  | 0 => c
  | h => sh ((phaseHop h).val + 1) c

/-! ## The places, written out -/

abbrev xo (r : Dev nD) : Fin 2 → ℕ := ![1024 * r.val, 0]
abbrev wof (r : Dev nD) (t : ℕ) : Fin 2 → ℕ := ![1024 * r.val, 1024 * min t 7]
abbrev go (s : Dev nD) : Fin 3 → ℕ := ![s.val, 0, 0]
abbrev so (s : Dev nD) : Fin 1 → ℕ := ![s.val]

theorem xo_inb (r : Dev nD) : ∀ a, xo r a + S1024x1024.size a ≤ S4096x1024.size a := by
  have : r.val < 4 := r.isLt
  intro a; fin_cases a
  · show 1024 * r.val + 1024 ≤ 4096; omega
  · show 0 + 1024 ≤ 1024; omega
theorem wof_inb (r : Dev nD) (t : ℕ) : ∀ a, wof r t a + S1024x1024.size a ≤ S4096x8192.size a := by
  have : r.val < 4 := r.isLt
  intro a; fin_cases a
  · show 1024 * r.val + 1024 ≤ 4096; omega
  · show 1024 * min t 7 + 1024 ≤ 8192; omega
theorem go_inb (s : Dev nD) : ∀ a, go s a + S1x1024x1024.size a ≤ S4x1024x1024.size a := by
  have : s.val < 4 := s.isLt
  intro a; fin_cases a
  · show s.val + 1 ≤ 4; omega
  · show 0 + 1024 ≤ 1024; omega
  · show 0 + 1024 ≤ 1024; omega
theorem so_inb (s : Dev nD) : ∀ a, so s a + S1.size a ≤ S4.size a := by
  have : s.val < 4 := s.isLt
  intro a; fin_cases a; show s.val + 1 ≤ 4; omega

theorem xrows_eq (c : Dev nD) (g : ℕ) : xrows c g = xo (xrow c g) := by
  unfold xrows xrow; split
  · exact k0_off3_eq c
  · rename_i h; split
    · exact absurd rfl h
    · exact k0_off1_eq c _
theorem xstores_eq (c : Dev nD) (g : ℕ) : xstores c g = xo (xrow c g) := by
  unfold xstores xrow; split
  · exact k0_off8_eq c
  · rename_i h; split
    · exact absurd rfl h
    · exact k0_off2_eq c _
theorem wown_eq (c : Dev nD) (t : ℕ) : wown c t = wof c t := by
  unfold wown; split
  · exact k0_off6_eq c
  · exact k0_off7_eq c
  · exact k0_off9_eq c
  · exact k0_off10_eq c
  · exact k0_off11_eq c
  · exact k0_off12_eq c
  · exact k0_off13_eq c
  · rw [k0_off14_eq c]; unfold wof; rw [show min t 7 = 7 by simp at *; omega]
theorem wrow_eq (c : Dev nD) (r : Fin 3) (t : ℕ) : wrow c r t = wof (sh (r.val + 1) c) t := by
  unfold wrow; split
  · exact k0_off15_eq c r
  · exact k0_off16_eq c r
  · exact k0_off17_eq c r
  · exact k0_off18_eq c r
  · exact k0_off22_eq c r
  · exact k0_off23_eq c r
  · exact k0_off24_eq c r
  · rw [k0_off25_eq c r]; unfold wof; rw [show min t 7 = 7 by simp at *; omega]; rfl

/-- The places of device `c`, written out. -/
def canon (c : Dev nD) : Places where
  xr g := xo (xrow c g)
  xr_inb g := xo_inb _
  xr_words g := by have h := (places c).xr_words g; simp only [places, xrows_eq] at h; exact h
  xv g := xo (xrow c g)
  xv_inb g := xo_inb _
  xv_packed g := by have h := (places c).xv_packed g; simp only [places, xstores_eq] at h; exact h
  wo h t := wof (krow c h) t
  wo_inb h t := wof_inb _ _
  gs h := go (sh ((phaseHop h).val + 1) c)
  gs_inb h := go_inb _
  gs_words h := by have h := (places c).gs_words h; simp only [places, k0_off20_eq] at h; exact h
  gv h := go (sh ((phaseHop h).val + 1) c)
  gv_inb h := go_inb _
  gm := go c
  gm_inb := go_inb _
  gm_words := by have h := (places c).gm_words; simp only [places, k0_off5_eq] at h; exact h
  rs h := so (sh ((phaseHop h).val + 1) c)
  rs_inb h := so_inb _
  rm := so c
  rm_inb := so_inb _
  sg k := match k with | 0 => sh 1 c | 1 => sh 2 c | _ => sh 3 c
  dv g := match g with | 0 => sh 1 c | 1 => sh 3 c | _ => sh 2 c

attribute [local ext] Places in
/-- The printed body's places are these. -/
theorem places_eq (c : Dev nD) : places c = canon c := by
  apply Places.ext
  · exact funext fun g => xrows_eq c g
  · exact funext fun g => xstores_eq c g
  · refine funext fun h => funext fun t => ?_
    show (match h with | 0 => wown c t | h => wrow c (phaseHop h) t) = wof (krow c h) t
    unfold krow; split
    · exact wown_eq c t
    · exact wrow_eq c _ t
  · exact funext fun h => k0_off20_eq c _
  · exact funext fun h => k0_off21_eq c _
  · exact k0_off5_eq c
  · exact funext fun h => k0_off19_eq c _
  · exact k0_off4_eq c
  · refine funext fun k => ?_
    show (match k with | 0 => (⟨k0_dev1 c, k0_dev1_lt c⟩ : Dev nD) | 1 => ⟨k0_dev2 c, k0_dev2_lt c⟩ | _ => ⟨k0_dev3 c, k0_dev3_lt c⟩)
      = (match k with | 0 => sh 1 c | 1 => sh 2 c | _ => sh 3 c)
    split
    · exact Fin.ext (k0_dev1_eq c)
    · exact Fin.ext (k0_dev2_eq c)
    · exact Fin.ext (k0_dev3_eq c)
  · refine funext fun k => ?_
    show (match k with | 0 => (⟨k0_dev4 c, k0_dev4_lt c⟩ : Dev nD) | 1 => ⟨k0_dev5 c, k0_dev5_lt c⟩ | _ => ⟨k0_dev6 c, k0_dev6_lt c⟩)
      = (match k with | 0 => sh 1 c | 1 => sh 3 c | _ => sh 2 c)
    split
    · exact Fin.ext (k0_dev4_eq c)
    · exact Fin.ext (k0_dev5_eq c)
    · exact Fin.ext (k0_dev6_eq c)

/-! ## The resource algebra: the pipeline's copy, the cells' rounds, the local transfers' counters -/

abbrev UB : Type := URounds (GSem nD τ sig) (Dev nD)
abbrev UU : Type := UR sig nD τ × (UB × Counters)

variable {F : FTy → Type} [FloatOps F]

local notation "𝕄" => MT nD τ sig Unit (Elt F) ℕ UU ℕ

abbrev EP : Emb (UR sig nD τ) (MT nD τ sig Unit (Elt F) ℕ UU ℕ) := embL
/-- The rounds of this protocol's cells: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## Elements held -/

/-- Device `c` holds the elements of a memref, whatever they contain. -/
def room (c : Dev nD) {sp : Space} {s : Shape} {e : EltTy} (M : Memref sig .tc sp s e) : sProp 𝕄 :=
  iprop(∃ f : Buf (Elt F) (M.view.loc (c : Thread nD τ)), M.view.loc (c : Thread nD τ) ↦[M.view.set]{fullShare} f)
/-- Device `c` holds the elements of a memref, and they read `v`. -/
def holds (c : Dev nD) {sp : Space} {s : Shape} {e : EltTy} (M : Memref sig .tc sp s e) (v : s.Idx → Elt F e) : sProp 𝕄 :=
  iprop(∃ f : Buf (Elt F) (M.view.loc (c : Thread nD τ)), ⌜M.view.read (Elt F) f = v⌝ ∗ (M.view.loc (c : Thread nD τ) ↦[M.view.set]{fullShare} f))

instance room_storable (c : Dev nD) {sp : Space} {s : Shape} {e : EltTy} (M : Memref sig .tc sp s e) :
    BI.Storable (upEmb : UEmb _ 𝕄) (room (F := F) c M) := by unfold room; infer_instance
instance holds_storable (c : Dev nD) {sp : Space} {s : Shape} {e : EltTy} (M : Memref sig .tc sp s e) (v : s.Idx → Elt F e) :
    BI.Storable (upEmb : UEmb _ 𝕄) (holds c M v) := by unfold holds; infer_instance

theorem holds_room (c : Dev nD) {sp : Space} {s : Shape} {e : EltTy} (M : Memref sig .tc sp s e) (v : s.Idx → Elt F e) :
    holds c M v ⊢ room (F := F) c M := by
  unfold holds room
  iintro ⟨%f, -, H⟩
  iexists f; iexact H

/-- Elements just written through the memref read what was written. -/
theorem holds_of_write (c : Dev nD) {sp : Space} {s : Shape} {e : EltTy} (M : Memref sig .tc sp s e) (v : s.Idx → Elt F e)
    (f : Buf (Elt F) (M.view.loc (c : Thread nD τ))) :
    (M.view.loc (c : Thread nD τ) ↦[M.view.set]{fullShare} (M.view.write (Elt F) f v Finset.univ)) ⊢ holds c M v := by
  unfold holds
  iintro H
  iexists (M.view.write (Elt F) f v Finset.univ)
  isplitr
  · ipureintro; exact View.read_write_univ (v := M.view) f v
  · iexact H

/-! ## Contents -/

variable (m : (ℓ : Loc nD τ sig) → Buf (Elt F) ℓ)

/-- Block `r` of the rows of device `c`'s `x`. -/
def xblk (c r : Dev nD) : Vec F S1024x1024 .f32 := (xBlk (xo r) (xo_inb r)).view.read (Elt F) (m ((c : Thread nD τ).loc main_arg0))
/-- The tile of device `c`'s weights in row block `r` and column block `t`. -/
def wblk (c r : Dev nD) (t : ℕ) : Vec F S1024x1024 .f32 := (wBlk (wof r t) (wof_inb r t)).view.read (Elt F) (m ((c : Thread nD τ).loc main_arg1))
/-- The narrowings of a block of `x` and of a tile of the weights. -/
def nx (b : Vec F S1024x1024 .f32) : Vec F S1024x1024 .fp8e4m3 := truncf .fp8e4m3 b bitsLt_fp8e4m3_f32
def nw (b : Vec F S1024x1024 .f32) : Vec F S1024x1024 .fp8e5m2 := truncf .fp8e5m2 b bitsLt_fp8e5m2_f32

/-! ## The cells -/

abbrev barCell (c : Dev nD) : GSem nD τ sig := ((c : Thread nD τ), .reg barS)
abbrev sendCell (c : Dev nD) (g : ℕ) : GSem nD τ sig := ((c : Thread nD τ), .dma (sdSem g))
abbrev recvCell (c s : Dev nD) : GSem nD τ sig := ((c : Thread nD τ), .dma (rcSem (so s) (so_inb s)))
abbrev stageCell (c : Dev nD) (g : ℕ) : GSem nD τ sig := ((c : Thread nD τ), .dma (stSem g))

theorem rcSem_val (s : Dev nD) : (rcSem (so s) (so_inb s)).val = 9 + s.val := by revert s; decide
theorem sdSem_val (g : ℕ) : (sdSem g).val = 6 + g % 3 := by
  have key : ∀ n, n < 3 → ∀ hi, (((cc0_scratch5.slice (Rect.unit (s := S3) ![n] S1.size hi)).squeeze S_ squeezes_S1_S_).sem).val = 6 + n := by decide
  exact key _ (Nat.mod_lt _ (by decide)) _
theorem stSem_val (g : ℕ) : (stSem g).val = 3 + g % 3 := by
  have key : ∀ n, n < 3 → ∀ hi, (((cc0_scratch4.slice (Rect.unit (s := S3) ![n] S1.size hi)).squeeze S_ squeezes_S1_S_).sem).val = 3 + n := by decide
  exact key _ (Nat.mod_lt _ (by decide)) _

/-- The units one block's copy credits. -/
def N : ℕ := (xgSlot (go 0) (go_inb 0)).view.dmaCredit
theorem N_pos : 0 < N := View.dmaCredit_pos _ (by decide)

/-- The device whose copies credit receive semaphore `q`. -/
def sOf (q : DmaSem sig) : Dev nD := ⟨(q.val - 9) % 4, Nat.mod_lt _ (by decide)⟩
theorem sOf_rc (s : Dev nD) : sOf (rcSem (so s) (so_inb s)) = s := by revert s; decide

/-! ## The schedule -/

/-- What device `d`'s signal hands `c`: the slot of `d` that `c` fills, and that `d` stands at the first round of the cell that copy credits. -/
def barPay (c d : Dev nD) : sProp 𝕄 := iprop(room (F := F) d (xgSlot (go c) (go_inb c)) ∗ reached ER (recvCell d c) 0)
/-- What the copy from `s` hands `c`: the slot of `s`, holding the narrowed rows `c` of the columns of `s`. -/
def recvPay (c s : Dev nD) : sProp 𝕄 := holds c (xgSlot (go s) (go_inb s)) (nx (xblk m s c))
/-- What the copy of step `g` hands back: the rows it read. -/
def sendPay (c : Dev nD) (g : ℕ) : sProp 𝕄 := room (F := F) c (xqBlk (xo (xrow c g)) (xo_inb _))

/-- One round for every cell. -/
def rd : Rounds.Schedule (GSem nD τ sig) (Dev nD) 𝕄 where
  duties g r := if r = 0 ∧ g.1.2 = .tc then
      (match g.2 with
        | .reg q => if q = barS then Finset.univ.erase g.1.1 else ∅
        | .dma q => if 9 ≤ q.val then (if sOf q = g.1.1 then ∅ else {sOf q}) else if 6 ≤ q.val then {g.1.1} else ∅)
    else ∅
  unitless _ := False
  amount g _ _ := match g.2 with | .reg _ => 1 | .dma _ => N
  payload g _ d := match g.2 with
    | .reg _ => barPay g.1.1 d
    | .dma q => if 9 ≤ q.val then recvPay m g.1.1 (sOf q) else sendPay g.1.1 (q.val - 6)
  amount_pos g _ _ _ := by
    obtain ⟨t, q | q⟩ := g
    · exact Nat.one_pos
    · exact N_pos

instance rd_payload_storable (g : GSem nD τ sig) (r : ℕ) (d : Dev nD) : BI.Storable (upEmb : UEmb _ 𝕄) ((rd (F := F) m).payload g r d) := by
  obtain ⟨t, q | q⟩ := g
  · show BI.Storable upEmb (barPay t.1 d)
    unfold barPay; infer_instance
  · show BI.Storable upEmb (if 9 ≤ q.val then recvPay m t.1 (sOf q) else sendPay t.1 (q.val - 6))
    unfold recvPay sendPay; split <;> infer_instance

section Tables
variable (c s : Dev nD) (g : ℕ)

theorem duties_bar : (rd m).duties (barCell c) 0 = Finset.univ.erase c := by
  dsimp only [rd]; rw [if_pos ⟨rfl, rfl⟩]; exact if_pos rfl
theorem duties_recv (h : s ≠ c) : (rd m).duties (recvCell c s) 0 = {s} := by
  dsimp only [rd]; rw [if_pos ⟨rfl, rfl⟩, rcSem_val, if_pos (Nat.le_add_right _ _), sOf_rc, if_neg h]
theorem duties_send : (rd m).duties (sendCell c g) 0 = {c} := by
  have := Nat.mod_lt g (show 0 < 3 by decide)
  dsimp only [rd]; rw [if_pos ⟨rfl, rfl⟩, sdSem_val, if_neg (by omega), if_pos (Nat.le_add_right _ _)]
theorem duties_own (r : ℕ) : (rd m).duties (recvCell c c) r = ∅ := by
  dsimp only [rd]; split
  · rw [rcSem_val, if_pos (Nat.le_add_right _ _), sOf_rc, if_pos rfl]
  · rfl
theorem duties_later (x : GSem nD τ sig) : ∀ r, 1 ≤ r → (rd m).duties x r = ∅ := fun r hr => by
  dsimp only [rd]; exact if_neg fun h => by omega

theorem amount_bar (d : Dev nD) : (rd m).amount (barCell c) 0 d = 1 := rfl
theorem amount_dma (q : DmaSem sig) (d : Dev nD) : (rd m).amount ((c : Thread nD τ), .dma q) 0 d = N := rfl

theorem expect_bar : (rd m).expect (barCell c) 0 = 3 := by
  unfold Schedule.expect Schedule.amountOf
  rw [duties_bar, Finset.sum_congr rfl fun d _ => amount_bar m c d, Finset.sum_const, Finset.card_erase_of_mem (Finset.mem_univ _)]
  rfl
theorem expect_recv (h : s ≠ c) : (rd m).expect (recvCell c s) 0 = N := by
  unfold Schedule.expect Schedule.amountOf; rw [duties_recv m c s h, Finset.sum_singleton, amount_dma]
theorem expect_send : (rd m).expect (sendCell c g) 0 = N := by
  unfold Schedule.expect Schedule.amountOf; rw [duties_send, Finset.sum_singleton, amount_dma]

theorem payload_bar (d : Dev nD) : (rd m).payload (barCell c) 0 d = barPay c d := rfl
theorem payload_recv (d : Dev nD) : (rd m).payload (recvCell c s) 0 d = recvPay m c s := by
  dsimp only [rd]; rw [rcSem_val, if_pos (Nat.le_add_right _ _), sOf_rc]
theorem payload_send (d : Dev nD) (hg : g < 3) : (rd m).payload (sendCell c g) 0 d = sendPay c g := by
  dsimp only [rd]; rw [sdSem_val, if_neg (by omega), show 6 + g % 3 - 6 = g by omega]

/-- A property of every device, device by device. -/
theorem bigSep_dev (Φ : Dev nD → sProp 𝕄) : bigSep Finset.univ Φ = iprop(Φ c ∗ Φ (sh 1 c) ∗ Φ (sh 2 c) ∗ Φ (sh 3 c)) :=
  bigSep_univ_eq_bigSepL [c, sh 1 c, sh 2 c, sh 3 c] (by revert c; decide) (by revert c; decide) Φ

theorem rest_bar : bigSep ((rd m).duties (barCell c) 0 \ ∅) (fun d => (rd m).payload (barCell c) 0 d)
    = iprop(barPay c (sh 1 c) ∗ barPay c (sh 2 c) ∗ barPay c (sh 3 c)) := by
  rw [Finset.sdiff_empty, duties_bar, bigSep_eq_bigSepL_of_eq [sh 1 c, sh 2 c, sh 3 c] (by revert c; decide) (by revert c; decide)]
  rfl
theorem rest_recv (h : s ≠ c) : bigSep ((rd m).duties (recvCell c s) 0 \ ∅) (fun d => (rd m).payload (recvCell c s) 0 d) = recvPay m c s := by
  rw [Finset.sdiff_empty, duties_recv m c s h, bigSep_singleton, payload_recv]
theorem rest_send (hg : g < 3) : bigSep ((rd m).duties (sendCell c g) 0 \ ∅) (fun d => (rd m).payload (sendCell c g) 0 d) = sendPay c g := by
  rw [Finset.sdiff_empty, duties_send, bigSep_singleton, payload_send m c g _ hg]

end Tables

/-! ## What a device owes, and the levels -/

abbrev owB (c : Dev nD) (k : ℕ) : CellTallies nD τ sig Unit := tallyAt (barCell (sh k c)) () 1
abbrev owR (c : Dev nD) (k : ℕ) : CellTallies nD τ sig Unit := tallyAt (recvCell (sh k c) c) () N

/-- What is owed before the last copy, the last two, all three; and before the signals. -/
def O1 (c : Dev nD) : CellTallies nD τ sig Unit := 0 + owR c 2
def O2 (c : Dev nD) : CellTallies nD τ sig Unit := O1 c + owR c 3
def O3 (c : Dev nD) : CellTallies nD τ sig Unit := O2 c + owR c 1
def O4 (c : Dev nD) : CellTallies nD τ sig Unit := O3 c + owB c 3
def O5 (c : Dev nD) : CellTallies nD τ sig Unit := O4 c + owB c 2
def O6 (c : Dev nD) : CellTallies nD τ sig Unit := O5 c + owB c 1

def L (g : GSem nD τ sig) : Finset Unit := if g.1.2 = .tc then {()} else ∅
def lv (g : GSem nD τ sig) (_ : Unit) : ℕ := match g.2 with | .reg _ => 1 | .dma q => if 9 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c s : Dev nD) : lv (recvCell c s) () = 2 := by dsimp only [lv]; rw [rcSem_val, if_pos (Nat.le_add_right _ _)]

/-- Everything owed lies above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with hz | hp
  · exact h' g u (by omega)
  · exact h g u hp
theorem above_tally {n k : ℕ} {g : GSem nD τ sig} (hL : () ∈ L g) (hl : n < lv g ()) : Above n (tallyAt g () k) := fun g' u hg => by
  rw [tallyAt_apply] at hg
  by_cases h : g' = g ∧ u = ()
  · rw [h.1]; exact ⟨hL, hl⟩
  · rw [if_neg h] at hg; exact absurd hg (Nat.lt_irrefl 0)
theorem above_owR (n : ℕ) (hn : n < 2) (c : Dev nD) (k : ℕ) : Above n (owR c k) :=
  above_tally (by rw [L_tc]; exact Finset.mem_singleton_self _) (by rw [lv_recv]; exact hn)
theorem above_owB (c : Dev nD) (k : ℕ) : Above 0 (owB c k) :=
  above_tally (by rw [L_tc]; exact Finset.mem_singleton_self _) Nat.one_pos
theorem above_O1 (n : ℕ) (hn : n < 2) (c : Dev nD) : Above n (O1 c) := above_add (above_zero n) (above_owR n hn c 2)
theorem above_O2 (n : ℕ) (hn : n < 2) (c : Dev nD) : Above n (O2 c) := above_add (above_O1 n hn c) (above_owR n hn c 3)
theorem above_O3 (n : ℕ) (hn : n < 2) (c : Dev nD) : Above n (O3 c) := above_add (above_O2 n hn c) (above_owR n hn c 1)
theorem above_O6 (c : Dev nD) : Above 0 (O6 c) :=
  above_add (above_add (above_add (above_O3 0 (by decide) c) (above_owB c 3)) (above_owB c 2)) (above_owB c 1)

/-- A device may wait on a cell of its own below everything it owes. -/
theorem mayWait_of (c : Dev nD) (sm : SemLoc sig) (n : ℕ) (hs : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hs) (fun g u hg => (hO g u hg).2)

abbrev 𝒱₀ : Variants := Variants.none

end Cert.GemmProof
-- ==== Proof.Pieces.lean ====
/-
# The pieces of the body, executed

One theorem for each piece of the body: what it needs held, and what is held after it.
-/
module

public import proofs.«01_k».proof.Proof.Protocol
public import Idealize.ShloMosaic.Lib.Pipeline.Value

@[expose] public section

noncomputable section

namespace Cert.GemmProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of device `c` run to a postcondition. -/
abbrev WP (c : Dev nD) (p : TP F) (Q : PUnit → sProp 𝕄) : sProp 𝕄 :=
  wp frame (wpE (defs₀ (F := F)) 𝒱₀ (c : Thread nD τ) none) Set.univ p Q

variable (m : (ℓ : Loc nD τ sig) → Buf (Elt F) ℓ)

/-! ## Staging -/

/-- The read share of the two arguments in device memory that slot `k` of the staging buffer reads through. -/
def hbm (c : Dev nD) (k : ℕ) : sProp 𝕄 :=
  iprop((((c : Thread nD τ).loc main_arg0) ↦{Transfers.shareTokN fullShare k} m ((c : Thread nD τ).loc main_arg0))
    ∗ (((c : Thread nD τ).loc main_arg1) ↦{Transfers.shareTokN fullShare k} m ((c : Thread nD τ).loc main_arg1)))

/-- A block in device memory that reads `v`, through the share of slot `k`. -/
def Readable (c : Dev nD) (k : ℕ) (src : Memref sig .tc .hbm S1024x1024 .f32) (v : Vec F S1024x1024 .f32) : Prop :=
  (hbm m c k : sProp 𝕄) ⊢ iprop(∃ (q : PosShare TreeShare) (fs : Buf (Elt F) (src.view.loc (c : Thread nD τ))), ⌜src.view.read (Elt F) fs = v⌝
    ∗ (src.view.loc (c : Thread nD τ) ↦[src.view.set]{q} fs) ∗ ((src.view.loc (c : Thread nD τ) ↦[src.view.set]{q} fs) -∗ hbm m c k))

theorem readable_x (c : Dev nD) (k : ℕ) (r : Dev nD) : Readable m c k (xBlk (xo r) (xo_inb r)) (xblk m c r) := by
  unfold Readable hbm
  iintro ⟨Hx, Hw⟩
  iexists (Transfers.shareTokN fullShare k), (m ((c : Thread nD τ).loc main_arg0))
  isplitr
  · ipureintro; rfl
  ihave Hs := (pointsTo_split_subset (Finset.subset_univ (xBlk (xo r) (xo_inb r)).view.set)).1 $$ Hx
  icases Hs with ⟨Hs, Hr⟩
  isplitl [Hs]; · iexact Hs
  iintro Hs
  isplitr [Hw]
  · iapply (pointsTo_split_subset (Finset.subset_univ (xBlk (xo r) (xo_inb r)).view.set)).2
    isplitl [Hs] <;> iassumption
  · iexact Hw

theorem readable_w (c : Dev nD) (k : ℕ) (r : Dev nD) (t : ℕ) : Readable m c k (wBlk (wof r t) (wof_inb r t)) (wblk m c r t) := by
  unfold Readable hbm
  iintro ⟨Hx, Hw⟩
  iexists (Transfers.shareTokN fullShare k), (m ((c : Thread nD τ).loc main_arg1))
  isplitr
  · ipureintro; rfl
  ihave Hs := (pointsTo_split_subset (Finset.subset_univ (wBlk (wof r t) (wof_inb r t)).view.set)).1 $$ Hw
  icases Hs with ⟨Hs, Hr⟩
  isplitl [Hs]; · iexact Hs
  iintro Hs
  isplitl [Hx]; · iexact Hx
  iapply (pointsTo_split_subset (Finset.subset_univ (wBlk (wof r t) (wof_inb r t)).view.set)).2
  isplitl [Hs] <;> iassumption

/-- The units one staged block credits. -/
def NS : ℕ := (stSlot 0).view.dmaCredit
theorem NS_pos : 0 < NS := View.dmaCredit_pos _ (by decide)

/-- The staging of a block that reads `v` is in flight into the slot of block `g`. -/
def flying (c : Dev nD) (g : ℕ) (v : Vec F S1024x1024 .f32) : sProp 𝕄 :=
  iprop(∃ R : sProp 𝕄, Transfers.Flight EC (c : Thread nD τ) (.dma (stSem g)) () NS iprop(holds c (stSlot g) v ∗ R) ∗ (R -∗ hbm m c (g % 3)))
/-- The slot of block `g` is free. -/
def idle (c : Dev nD) (g : ℕ) : sProp 𝕄 := iprop(room c (stSlot g) ∗ semVal (stageCell c g) 0 ∗ hbm m c (g % 3))
/-- What device `c` owes, whatever it has waited for. -/
def owing (c : Dev nD) (O : CellTallies nD τ sig Unit) : sProp 𝕄 := iprop(∃ W, owes (c : Thread nD τ) O W)

/-- Starting to stage a block. -/
theorem wp_issue (c : Dev nD) (g : ℕ) (src : Memref sig .tc .hbm S1024x1024 .f32) (v : Vec F S1024x1024 .f32) (hr : Readable m c (g % 3) src v)
    (K : TP F) (Q : PUnit → sProp 𝕄) :
    iprop(idle m c g ∗ (flying m c g v -∗ WP c K Q)) ⊢ WP c (issue g src K) Q := by
  unfold Readable at hr
  unfold idle issue
  iintro ⟨⟨Hroom, Hsem, Hh⟩, HK⟩
  unfold room
  icases Hroom with ⟨%fd, Hd⟩
  ihave Hsrc := hr $$ Hh
  icases Hsrc with ⟨%q, %fs, %hv, Hs, Hback⟩
  iapply (Transfers.wp_dmaLocal EC 𝒱₀ (c : Thread nD τ) none (src := src) (dst := stSlot g) (sm := .dma (stSem g)) (q := q) (fs := fs) (fd := fd)
    () NS rfl NS_pos subset_rfl) $$ [Hs Hd Hsem]
  · isplitl [Hs]; · iexact Hs
    isplitl [Hd]; · iexact Hd
    iexact Hsem
  iintro Hf
  iapply HK
  unfold flying
  iexists iprop(src.view.loc (c : Thread nD τ) ↦[src.view.set]{q} fs)
  isplitl [Hf]
  · iapply (Transfers.Flight_mono EC (c : Thread nD τ) (sep_mono_left ?_)) $$ Hf
    rw [← hv]
    exact holds_of_write c (stSlot g) _ fd
  · iexact Hback

theorem lv_stage (c : Dev nD) (g : ℕ) : lv (stageCell c g) () ≤ 0 := by
  have := Nat.mod_lt g (show 0 < 3 by decide)
  dsimp only [lv]; rw [stSem_val, if_neg (by omega)]
/-- The slot as a transfer names it has the elements a load of it reads. -/
theorem set_stSlot (g : ℕ) : (stSlot g).view.set = (stM.access (stR g)).set := View.set_reshape (stM.access (stR g)) _

/-- Waiting for a staged block and reading it: the slot is free again. -/
theorem wp_arrive (c : Dev nD) (g : ℕ) (src : Memref sig .tc .hbm S1024x1024 .f32) (v : Vec F S1024x1024 .f32)
    {O : CellTallies nD τ sig Unit} (hO : Above 0 O) (K : Vec F S1x1024x1024 .f32 → TP F) (Q : PUnit → sProp 𝕄) :
    iprop(flying m c g v ∗ owing c O ∗ levAts L lv
        ∗ (∀ u, ⌜shapeCast S1024x1024 u shapeCasts_S1x1024x1024_S1024x1024 = v⌝ -∗ idle m c g -∗ owing c O -∗ WP c (K u) Q))
      ⊢ WP c (arrive g src K) Q := by
  unfold flying arrive owing
  iintro ⟨⟨%R, Hf, Hback⟩, ⟨%W, HO⟩, Hlev, HK⟩
  iapply (Transfers.wp_waitLocalO EC 𝒱₀ (c : Thread nD τ) none (srcw := src) (dstw := stSlot g) (sem := stSem g)
    (hsrc := View.wordExact_bits rfl) (hdst := (View.wordExact_bits rfl).reshape _ _) () (N := NS) rfl (O := O) (W := W)) $$ [Hf HO Hlev]
  · isplitl [Hf]; · iexact Hf
    isplitl [HO]; · iexact HO
    iapply (mayWait_of c (.dma (stSem g)) 0 (lv_stage c g) hO); iexact Hlev
  iintro ⟨⟨Hh, HR⟩, Hsem, HO⟩
  unfold holds
  icases Hh with ⟨%f, %hf, Hd⟩
  iapply (wp_load_rect 𝒱₀ (c : Thread nD τ) none Set.univ (m := stM) (r := stR g) (S := (stSlot g).view.set) (q := fullShare) (f := f)
    (set_stSlot g).ge) $$ Hd
  iintro Hd
  ispecialize HK $$ %((stM.access (stR g)).read (Elt F) f)
  ihave HK := HK $$ [] [Hd Hsem Hback HR]
  · ipureintro; exact hf
  · unfold idle room
    isplitl [Hd]; · iexists f; iexact Hd
    isplitl [Hsem]; · iexact Hsem
    iapply Hback $$ HR
  iapply HK
  iexists _; iexact HO

theorem pay1_eq (u : Vec F S1x1024x1024 .f32) : k0_pay1 u = nx (shapeCast S1024x1024 u shapeCasts_S1x1024x1024_S1024x1024) := shapeCast_self _ _
theorem pay8_eq (u : Vec F S1x1024x1024 .f32) :
    shapeCast S1024x1024 (k0_pay8 u) shapeCasts_S1x1024x1024_S1024x1024 = nw (shapeCast S1024x1024 u shapeCasts_S1x1024x1024_S1024x1024) :=
  shapeCast_shapeCast _ _ _

/-- Narrowing a staged block of rows of `x` into its place. -/
theorem wp_fetchX (c : Dev nD) (g : ℕ) (v : Vec F S1024x1024 .f32) {O : CellTallies nD τ sig Unit} (hO : Above 0 O) (K : TP F) (Q : PUnit → sProp 𝕄) :
    iprop(flying m c g v ∗ owing c O ∗ levAts L lv ∗ room c (xqBlk (xo (xrow c g)) (xo_inb _))
        ∗ (idle m c g -∗ owing c O -∗ holds c (xqBlk (xo (xrow c g)) (xo_inb _)) (nx v) -∗ WP c K Q))
      ⊢ WP c (fetchX (canon c) g K) Q := by
  unfold fetchX
  iintro ⟨Hf, HO, Hlev, Hroom, HK⟩
  iapply (wp_arrive m c g _ v hO)
  isplitl [Hf]; · iexact Hf
  isplitl [HO]; · iexact HO
  isplitl [Hlev]; · iexact Hlev
  iintro %u %hu Hidle HO
  unfold room
  icases Hroom with ⟨%f, Hx⟩
  iapply (wp_load_rect 𝒱₀ (c : Thread nD τ) none Set.univ (m := xqM) (r := Rect.unit (s := S4096x1024) (xo (xrow c g)) S1024x1024.size (xo_inb _))
    (S := (xqBlk (xo (xrow c g)) (xo_inb _)).view.set) (q := fullShare) (f := f) subset_rfl) $$ Hx
  iintro Hx
  iapply (wp_store 𝒱₀ (c : Thread nD τ) none Set.univ (m := xqM) (r := Rect.unit (s := S4096x1024) (xo (xrow c g)) S1024x1024.size (xo_inb _))
    (S := (xqBlk (xo (xrow c g)) (xo_inb _)).view.set) (f := f) subset_rfl) $$ Hx
  iintro Hx
  ihave HK := HK $$ Hidle HO
  iapply HK
  rw [show nx v = k0_pay1 u from by rw [pay1_eq, hu]]
  iapply (holds_of_write c (xqBlk (xo (xrow c g)) (xo_inb _)) (k0_pay1 u) f) $$ Hx

/-! ## The copies between devices -/

theorem xrow_ne (c : Dev nD) {g : ℕ} (hg : g < 3) : xrow c g ≠ c := by
  have h : g = 0 ∨ g = 1 ∨ g = 2 := by omega
  rcases h with rfl | rfl | rfl <;> revert c <;> decide
theorem dv_eq (c : Dev nD) {g : ℕ} (hg : g < 3) : (canon c).dv g = xrow c g := by
  have h : g = 0 ∨ g = 1 ∨ g = 2 := by omega
  rcases h with rfl | rfl | rfl <;> rfl

/-- A remote copy addressed to the device whose rows it carries. -/
theorem wp_copy_to (c n : Dev nD) {g : ℕ} (hg : g < 3) (hn : n = xrow c g) (κ₁ κ₂ : ℕ) {O O' : CellTallies nD τ sig Unit}
    (hO : O' = O + tallyAt (recvCell (xrow c g) c) () N)
    {hsc : (xgSlot (go c) (go_inb c) : Memref sig (Dev.tc n : Thread nD τ).2.kind .vmem S1024x1024 .fp8e4m3).view.ref.isScScratch = false}
    {hsrc : (xqBlk (xo (xrow c g)) (xo_inb _)).view.WordExact} {hdst : (xgSlot (go c) (go_inb c)).view.WordExact}
    {hsem : DmaTarget.Typed .vmem (.dma (rcSem (so c) (so_inb c)))
      (.remote (Dev.tc n : Thread nD τ) (xgSlot (go c) (go_inb c) : Memref sig .tc .vmem S1024x1024 .fp8e4m3) (.dma (sdSem g)) hsc)}
    (K : TP F) (Q : PUnit → sProp 𝕄) :
    iprop(cellInv ER (rd m) κ₁ (sendCell c g) ∗ cellInv ER (rd m) κ₂ (recvCell (xrow c g) c)
        ∗ holds c (xqBlk (xo (xrow c g)) (xo_inb _)) (nx (xblk m c (xrow c g))) ∗ room (xrow c g) (xgSlot (go c) (go_inb c)) ∗ owing c O'
        ∗ dutyTok ER (sendCell c g) 0 c ∗ reached ER (sendCell c g) 0
        ∗ dutyTok ER (recvCell (xrow c g) c) 0 c ∗ reached ER (recvCell (xrow c g) c) 0
        ∗ (cred (tallyAt (sendCell c g) () N) -∗ owing c O -∗ WP c K Q))
      ⊢ WP c (.op (.enqueueDma (xqBlk (xo (xrow c g)) (xo_inb _)) (.remote (Dev.tc n : Thread nD τ) (xgSlot (go c) (go_inb c)) (.dma (sdSem g)) hsc)
          (.dma (rcSem (so c) (so_inb c))) hsrc hdst hsem) fun _ => K) Q := by
  subst hn
  unfold holds room owing
  iintro ⟨Hi1, Hi2, ⟨%fs, %hv, Hs⟩, ⟨%fd, Hd⟩, ⟨%W, HO⟩, Ht1, Hr1, Ht2, Hr2, HK⟩
  iapply (Rounds.wp_send_pointsTo 𝒱₀ ER (rd m) (c : Thread nD τ) none (κ₁ := κ₁) (κ₂ := κ₂) (r₁ := 0) (r₂ := 0) (d₁ := c) (d₂ := c) (fs := fs) (fd := fd)
    (q := fullShare)
    (by rw [duties_send]; exact Finset.mem_singleton_self _) (by rw [duties_recv m _ _ (xrow_ne c hg).symm]; exact Finset.mem_singleton_self _)
    () () N rfl rfl rfl O hO (W := W)
    (by rw [payload_send m c g _ hg]; unfold sendPay room; iintro H; iexists fs; iexact H)
    (by rw [payload_recv]; unfold recvPay; rw [← hv]; exact holds_of_write (xrow c g) (xgSlot (go c) (go_inb c)) _ fd)) $$ [Hi1 Hi2 Hs Hd HO Ht1 Hr1 Ht2 Hr2]
  · isplitl [Hi1]; · iexact Hi1
    isplitl [Hi2]; · iexact Hi2
    isplitl [Hs]; · iexact Hs
    isplitl [Hd]; · iexact Hd
    isplitl [HO]; · iexact HO
    isplitl [Ht1]; · iexact Ht1
    isplitl [Hr1]; · iexact Hr1
    isplitl [Ht2] <;> iassumption
  iintro ⟨Hc, HO⟩
  iapply HK $$ Hc
  iexists W; iexact HO

/-- The remote copy of step `g`: the rows are lent, the receiver's slot is given away. -/
theorem wp_send (c : Dev nD) {g : ℕ} (hg : g < 3) (κ₁ κ₂ : ℕ) {O O' : CellTallies nD τ sig Unit}
    (hO : O' = O + tallyAt (recvCell (xrow c g) c) () N) (K : TP F) (Q : PUnit → sProp 𝕄) :
    iprop(cellInv ER (rd m) κ₁ (sendCell c g) ∗ cellInv ER (rd m) κ₂ (recvCell (xrow c g) c)
        ∗ holds c (xqBlk (xo (xrow c g)) (xo_inb _)) (nx (xblk m c (xrow c g))) ∗ room (xrow c g) (xgSlot (go c) (go_inb c)) ∗ owing c O'
        ∗ dutyTok ER (sendCell c g) 0 c ∗ reached ER (sendCell c g) 0
        ∗ dutyTok ER (recvCell (xrow c g) c) 0 c ∗ reached ER (recvCell (xrow c g) c) 0
        ∗ (cred (tallyAt (sendCell c g) () N) -∗ owing c O -∗ WP c K Q))
      ⊢ WP c (send (canon c) g K) Q :=
  wp_copy_to m c _ hg (dv_eq c hg) κ₁ κ₂ hO K Q

/-- The wait for the copy of step `g` to have left: the rows come back, and the cell is closed. -/
theorem wp_sent (c : Dev nD) {g : ℕ} (hg : g < 3) (κ : ℕ) (K : TP F) (Q : PUnit → sProp 𝕄) :
    iprop(cellInv ER (rd m) κ (sendCell c g) ∗ cred (tallyAt (sendCell c g) () N) ∗ owing c 0 ∗ atPos ER (sendCell c g) 0 ∅ 0
        ∗ (owing c 0 -∗ semVal (sendCell c g) 0 -∗ room c (xqBlk (xo (xrow c g)) (xo_inb _)) -∗ WP c K Q))
      ⊢ WP c (sent (canon c) g K) Q := by
  unfold sent owing
  iintro ⟨#Hi, Hc, ⟨%W, HO⟩, Hat, HK⟩
  iapply (Rounds.wp_wait_rest_token 𝒱₀ ER (rd m) (c : Thread nD τ) none (κ := κ)
      (wpE_waitDma2_eq 𝒱₀ (c : Thread nD τ) none Set.univ) (Set.mem_univ _) () (O := 0) (W := W) (R := 0) (m := 0) (T := ∅)
      (by rw [Nat.zero_add]; exact (expect_send m c g).symm)) $$ [Hc HO Hat]
  · isplitr; · iexact Hi
    isplitl [Hc]; · iexact Hc
    isplitl [HO]; · iexact HO
    isplitr; · rw [MayWait_zero]; iempintro
    iexact Hat
  iintro ⟨HO, Hat, -, Hpay⟩
  ihave Hp := (Entails.of_eq (rest_send m c g hg)) $$ Hpay
  imod (Rounds.cell_close ER (rd m) (Set.mem_univ κ) (fun h => h) (R := 0 + 1) (duties_later m (sendCell c g))) $$ [Hat] with Hz
  · isplitr; · iexact Hi
    iexact Hat
  ihave HK := HK $$ [HO]
  · iexists _; iexact HO
  unfold sendPay
  iapply HK $$ Hz Hp

/-- The device phase `h` waits for. -/
abbrev kph (c : Dev nD) (h : ℕ) : Dev nD := sh ((phaseHop h).val + 1) c
theorem kph_ne (c : Dev nD) (h : ℕ) : kph c h ≠ c := by
  have key : ∀ r : Fin 3, ∀ c : Dev nD, sh (r.val + 1) c ≠ c := by decide
  exact key _ c

/-- The wait for the block of phase `h`: the slot comes with the block in it, and the cell is closed. -/
theorem wp_arrived (c : Dev nD) (h : ℕ) (κ : ℕ) (K : TP F) (Q : PUnit → sProp 𝕄) :
    iprop(cellInv ER (rd m) κ (recvCell c (kph c h)) ∗ cred (tallyAt (recvCell c (kph c h)) () N) ∗ owing c 0 ∗ atPos ER (recvCell c (kph c h)) 0 ∅ 0
        ∗ (owing c 0 -∗ semVal (recvCell c (kph c h)) 0 -∗ holds c (xgSlot (go (kph c h)) (go_inb _)) (nx (xblk m (kph c h) c)) -∗ WP c K Q))
      ⊢ WP c (arrived (canon c) h K) Q := by
  unfold arrived owing
  iintro ⟨#Hi, Hc, ⟨%W, HO⟩, Hat, HK⟩
  iapply (Rounds.wp_wait_rest_token 𝒱₀ ER (rd m) (c : Thread nD τ) none (κ := κ) (sm := .dma (rcSem (so (kph c h)) (so_inb _)))
      (wpE_waitDma2_eq 𝒱₀ (c : Thread nD τ) none Set.univ) (Set.mem_univ _) () (O := 0) (W := W) (R := 0) (m := 0) (T := ∅)
      (by rw [Nat.zero_add]; exact (expect_recv m c (kph c h) (kph_ne c h)).symm)) $$ [Hc HO Hat]
  · isplitr; · iexact Hi
    isplitl [Hc]; · iexact Hc
    isplitl [HO]; · iexact HO
    isplitr; · rw [MayWait_zero]; iempintro
    iexact Hat
  iintro ⟨HO, Hat, -, Hpay⟩
  ihave Hp := (Entails.of_eq (rest_recv m c (kph c h) (kph_ne c h))) $$ Hpay
  imod (Rounds.cell_close ER (rd m) (Set.mem_univ κ) (fun h => h) (R := 0 + 1) (duties_later m (recvCell c (kph c h)))) $$ [Hat] with Hz
  · isplitr; · iexact Hi
    iexact Hat
  ihave HK := HK $$ [HO]
  · iexists _; iexact HO
  unfold recvPay
  iapply HK $$ Hz Hp

/-! ## The tiles' reads and writes -/

/-- The narrow weights' buffer, whole, whatever it contains. -/
def wqAny (c : Dev nD) : sProp 𝕄 := iprop(∃ f : Buf (Elt F) ((c : Thread nD τ).loc cc0_scratch3), ((c : Thread nD τ).loc cc0_scratch3) ↦{fullShare} f)
/-- The same, the slot of tile `t` holding `w`. -/
def wqIs (c : Dev nD) (t : ℕ) (w : Vec F S1024x1024 .fp8e5m2) : sProp 𝕄 :=
  iprop(∃ f : Buf (Elt F) ((c : Thread nD τ).loc cc0_scratch3),
    ⌜shapeCast S1024x1024 ((wqM.access (wqR t)).read (Elt F) f) shapeCasts_S1x1024x1024_S1024x1024 = w⌝ ∗ (((c : Thread nD τ).loc cc0_scratch3) ↦{fullShare} f))
/-- The output block, whole, its column blocks holding `E`. -/
def outIs (c : Dev nD) (E : ℕ → Vec F S1024x1024 .f32) : sProp 𝕄 :=
  iprop(∃ A : Buf (Elt F) ((c : Thread nD τ).loc cc0_stg2_0),
    ⌜∀ t, t < 8 → (oM.access (oR t)).read (Elt F) A = E t⌝ ∗ (((c : Thread nD τ).loc cc0_stg2_0) ↦{fullShare} A))

theorem wqIs_any (c : Dev nD) (t : ℕ) (w : Vec F S1024x1024 .fp8e5m2) : wqIs c t w ⊢ wqAny (F := F) c := by
  unfold wqIs wqAny
  iintro ⟨%f, -, H⟩
  iexists f; iexact H

/-- Narrowing a tile into its slot. -/
theorem wp_putW (c : Dev nD) (t : ℕ) (u : Vec F S1x1024x1024 .f32) (v : Vec F S1024x1024 .f32)
    (hu : shapeCast S1024x1024 u shapeCasts_S1x1024x1024_S1024x1024 = v) {hx hm hl} (K : TP F) (Q : PUnit → sProp 𝕄) :
    iprop(wqAny c ∗ (wqIs c t (nw v) -∗ WP c K Q))
      ⊢ WP c (.op (.load wqM (wqR t).toLoadRect hl) fun _ => .op (.store wqM (wqR t) (k0_pay8 u) Finset.univ hx hm) fun _ => K) Q := by
  unfold wqAny
  iintro ⟨⟨%f, Hw⟩, HK⟩
  iapply (wp_load_rect 𝒱₀ (c : Thread nD τ) none Set.univ (m := wqM) (r := wqR t) (S := Finset.univ) (q := fullShare) (f := f) (Finset.subset_univ _)) $$ Hw
  iintro Hw
  iapply (wp_store 𝒱₀ (c : Thread nD τ) none Set.univ (m := wqM) (r := wqR t) (S := Finset.univ) (f := f) (Finset.subset_univ _)) $$ Hw
  iintro Hw
  iapply HK
  unfold wqIs
  iexists ((wqM.access (wqR t)).write (Elt F) f (k0_pay8 u) Finset.univ)
  isplitr
  · ipureintro
    rw [View.read_write_univ (v := wqM.access (wqR t)) f (k0_pay8 u)]
    rw [pay8_eq, hu]
  · iexact Hw

theorem wp_readW (c : Dev nD) (t : ℕ) (w : Vec F S1024x1024 .fp8e5m2) (K : Vec F S1x1024x1024 .fp8e5m2 → TP F) (Q : PUnit → sProp 𝕄) :
    iprop(wqIs c t w ∗ (∀ b, ⌜shapeCast S1024x1024 b shapeCasts_S1x1024x1024_S1024x1024 = w⌝ -∗ wqAny c -∗ WP c (K b) Q)) ⊢ WP c (readW t K) Q := by
  unfold wqIs readW
  iintro ⟨⟨%f, %hf, Hw⟩, HK⟩
  iapply (wp_load_rect 𝒱₀ (c : Thread nD τ) none Set.univ (m := wqM) (r := wqR t) (S := Finset.univ) (q := fullShare) (f := f) (Finset.subset_univ _)) $$ Hw
  iintro Hw
  iapply HK $$ %_ [] [Hw]
  · ipureintro; exact hf
  · unfold wqAny; iexists f; iexact Hw

theorem wp_readO (c : Dev nD) {t : ℕ} (ht : t < 8) (E : ℕ → Vec F S1024x1024 .f32) (K : Vec F S1024x1024 .f32 → TP F) (Q : PUnit → sProp 𝕄) :
    iprop(outIs c E ∗ (outIs c E -∗ WP c (K (E t)) Q)) ⊢ WP c (readO t K) Q := by
  unfold outIs readO
  iintro ⟨⟨%A, %hA, Ho⟩, HK⟩
  iapply (wp_load_rect 𝒱₀ (c : Thread nD τ) none Set.univ (m := oM) (r := oR t) (S := Finset.univ) (q := fullShare) (f := A) (Finset.subset_univ _)) $$ Ho
  iintro Ho
  rw [hA t ht]
  iapply HK
  iexists A
  isplitr; · ipureintro; exact hA
  iexact Ho

/-- Two column blocks of the output do not meet. -/
theorem out_disjoint {t t' : ℕ} (ht : t < 8) (ht' : t' < 8) (h : t ≠ t') : Disjoint (oM.access (oR t)).set (oM.access (oR t')).set := by
  rw [show (oM.access (oR t)).set = (oR t).set.map oM.view.emb from View.set_slice _ _, show (oM.access (oR t')).set = (oR t').set.map oM.view.emb from View.set_slice _ _,
    Finset.disjoint_map]
  refine Rect.unit_disjoint (1 : Fin 2) ?_
  show 1024 * (t % 8) + 1024 ≤ 1024 * (t' % 8) ∨ 1024 * (t' % 8) + 1024 ≤ 1024 * (t % 8)
  rw [Nat.mod_eq_of_lt ht, Nat.mod_eq_of_lt ht']; omega

theorem wp_putO (c : Dev nD) {t : ℕ} (ht : t < 8) (E : ℕ → Vec F S1024x1024 .f32) (v : Vec F S1024x1024 .f32) (K : TP F) (Q : PUnit → sProp 𝕄) :
    iprop(outIs c E ∗ (outIs c (Function.update E t v) -∗ WP c K Q)) ⊢ WP c (putO t v K) Q := by
  unfold outIs putO
  iintro ⟨⟨%A, %hA, Ho⟩, HK⟩
  iapply (wp_store 𝒱₀ (c : Thread nD τ) none Set.univ (m := oM) (r := oR t) (S := Finset.univ) (f := A) (Finset.subset_univ _)) $$ Ho
  iintro Ho
  iapply HK
  iexists ((oM.access (oR t)).write (Elt F) A v Finset.univ)
  isplitr
  · ipureintro
    intro t' ht'
    by_cases h : t' = t
    · subst h; rw [Function.update_self]; exact View.read_write_univ (v := oM.access (oR t')) A v
    · rw [Function.update_of_ne h, ← hA t' ht']
      exact View.read_slice_write_slice_of_disjoint (v := oM.view) (oR t') (oR t) A v Finset.univ (out_disjoint ht' ht h)
  · iexact Ho

/-- The read of the block phase `h` multiplies by. -/
theorem wp_readG (c : Dev nD) (h : ℕ) (v : Vec F S1024x1024 .fp8e4m3) (K : Vec F S1x1024x1024 .fp8e4m3 → TP F) (Q : PUnit → sProp 𝕄) :
    iprop(holds c (xgSlot (go (kph c h)) (go_inb _)) v
        ∗ (∀ a, ⌜shapeCast S1024x1024 a shapeCasts_S1x1024x1024_S1024x1024 = v⌝ -∗ holds c (xgSlot (go (kph c h)) (go_inb _)) v -∗ WP c (K a) Q))
      ⊢ WP c (readG (canon c) h K) Q := by
  unfold readG holds
  iintro ⟨⟨%f, %hf, Hg⟩, HK⟩
  iapply (wp_load_rect 𝒱₀ (c : Thread nD τ) none Set.univ (m := xgM) (r := Rect.unit (s := S4x1024x1024) (go (kph c h)) S1x1024x1024.size (go_inb _))
    (S := (xgSlot (go (kph c h)) (go_inb _)).view.set) (q := fullShare) (f := f) (View.set_reshape (xgM.access _) _).ge) $$ Hg
  iintro Hg
  iapply HK $$ %_ [] [Hg]
  · ipureintro; exact hf
  · iexists f
    isplitr; · ipureintro; exact hf
    iexact Hg

end Cert.GemmProof
-- ==== Proof.Tiles.lean ====
/-
# The tiles

Thirty-two tiles: four phases of eight.  A tile takes its staged weights, narrows them, starts the staging of the tile three
later, multiplies, and adds into its column block of the output.  Each kind of tile is executed once, at a symbolic tile, and a
phase is eight of them.
-/
module

public import proofs.«01_k».proof.Proof.Pieces

@[expose] public section

noncomputable section

namespace Cert.GemmProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a tile computes -/

/-- The product of a narrow block of `x` and a narrow tile of the weights. -/
def dotv (a : Vec F S1024x1024 .fp8e4m3) (b : Vec F S1024x1024 .fp8e5m2) : FVec F S1024x1024 .f32 :=
  matmul dot_S1024x1024_S1024x1024_S1024x1024_1_0_0_1_n_n none a b (constant S1024x1024 .f32 0x00000000#32)
/-- The epilogue: scale by the product of the two scales, and `y · (1 / (1 + exp (0 - y)))`. -/
def epi (sx sw : Elt F .f32) (acc : Vec F S1024x1024 .f32) : FVec F S1024x1024 .f32 :=
  have y : FVec F S1024x1024 .f32 := mulf acc (broadcast S1024x1024 (Scalar.mulf sx sw))
  mulf y (divf (broadcast S1024x1024 (Scalar.ofBits .f32 0x3F800000#32))
    (addf (broadcast S1024x1024 (Scalar.ofBits .f32 0x3F800000#32)) (exp (subf (broadcast S1024x1024 (Scalar.ofBits .f32 0x00000000#32)) y))))

theorem pay7_eq (a : Vec F S1024x1024 .fp8e4m3) (b : Vec F S1x1024x1024 .fp8e5m2) :
    k0_pay7 a b = dotv a (shapeCast S1024x1024 b shapeCasts_S1x1024x1024_S1024x1024) := rfl
theorem pay24_eq (a : Vec F S1x1024x1024 .fp8e4m3) (b : Vec F S1x1024x1024 .fp8e5m2) (o : Vec F S1024x1024 .f32) :
    k0_pay24 a b o = addf o (dotv (shapeCast S1024x1024 a shapeCasts_S1x1024x1024_S1024x1024) (shapeCast S1024x1024 b shapeCasts_S1x1024x1024_S1024x1024)) :=
  congrArg (fun z => addf z _) (shapeCast_self o _)
theorem pay66_eq (a : Vec F S1x1024x1024 .fp8e4m3) (b : Vec F S1x1024x1024 .fp8e5m2) (o : Vec F S1024x1024 .f32) (sx sw : Elt F .f32) :
    k0_pay66 a b o sx sw
      = epi sx sw (addf o (dotv (shapeCast S1024x1024 a shapeCasts_S1x1024x1024_S1024x1024) (shapeCast S1024x1024 b shapeCasts_S1x1024x1024_S1024x1024))) :=
  congrArg (fun z => epi sx sw (addf z _)) (shapeCast_self o _)

/-- The sum of the first `h + 1` phases in column block `t` of device `c`. -/
def part (c : Dev nD) : ℕ → ℕ → Vec F S1024x1024 .f32
  | 0, t => dotv (nx (xblk m c c)) (nw (wblk m c c t))
  | h + 1, t => addf (part c h t) (dotv (nx (xblk m (kph c (h + 1)) c)) (nw (wblk m c (kph c (h + 1)) t)))

/-- The column blocks while a phase replaces `prev` by `new`, `t` of them done. -/
def mix (t : ℕ) (new prev : ℕ → Vec F S1024x1024 .f32) : ℕ → Vec F S1024x1024 .f32 := fun j => if j < t then new j else prev j
theorem mix_at (t : ℕ) (new prev : ℕ → Vec F S1024x1024 .f32) : mix t new prev t = prev t := if_neg (lt_irrefl t)
theorem mix_update (t : ℕ) (new prev : ℕ → Vec F S1024x1024 .f32) : Function.update (mix t new prev) t (new t) = mix (t + 1) new prev := by
  funext j
  by_cases h : j = t
  · subst h; rw [Function.update_self]; exact (if_pos (Nat.lt_succ_self j)).symm
  · rw [Function.update_of_ne h]; unfold mix
    by_cases h' : j < t
    · rw [if_pos h', if_pos (by omega)]
    · rw [if_neg h', if_neg (by omega)]
theorem mix_zero (new prev : ℕ → Vec F S1024x1024 .f32) : mix 0 new prev = prev := rfl
theorem outIs_done (c : Dev nD) (new prev : ℕ → Vec F S1024x1024 .f32) : outIs c (mix 8 new prev) ⊢ outIs c new := by
  unfold outIs
  iintro ⟨%A, %hA, H⟩
  iexists A
  isplitr
  · ipureintro; intro t ht; rw [hA t ht]; exact if_pos ht
  · iexact H

/-! ## The staging pipeline -/

/-- Block `g` of the staging order: four blocks of `x`, then the thirty-two tiles. -/
def blk (c : Dev nD) (g : ℕ) : Vec F S1024x1024 .f32 := if g < 4 then xblk m c (xrow c g) else wblk m c (krow c ((g - 4) / 8)) ((g - 4) % 8)
theorem blk_x (c : Dev nD) {g : ℕ} (hg : g < 4) : blk m c g = xblk m c (xrow c g) := if_pos hg
theorem blk_w (c : Dev nD) (h : ℕ) {t : ℕ} (ht : t < 8) : blk m c (4 + 8 * h + t) = wblk m c (krow c h) t := by
  unfold blk
  rw [if_neg (by omega), show (4 + 8 * h + t - 4) / 8 = h by omega, show (4 + 8 * h + t - 4) % 8 = t by omega]
/-- The slot of block `g`: in flight, or free when there is no such block. -/
def slot (c : Dev nD) (g : ℕ) : sProp 𝕄 := if g < 36 then flying m c g (blk m c g) else idle m c g
theorem slot_lt (c : Dev nD) {g : ℕ} (hg : g < 36) : slot m c g = flying m c g (blk m c g) := if_pos hg
theorem slot_end (c : Dev nD) {g : ℕ} (hg : 36 ≤ g) : slot m c g = idle m c g := if_neg (by omega)

theorem stR_congr {g g' : ℕ} (h : g % 3 = g' % 3) : stSlot g = stSlot g' ∧ stSem g = stSem g' := by
  unfold stSlot stR stSem
  constructor <;> congr! 3 <;> simp only [h]

/-- A slot three blocks later is the same slot. -/
theorem idle_add (c : Dev nD) (g : ℕ) : (idle m c (g + 3) : sProp 𝕄) = idle m c g := by
  have h : (g + 3) % 3 = g % 3 := by omega
  unfold idle
  rw [show stSlot (g + 3) = stSlot g from (stR_congr h).1, show stageCell c (g + 3) = stageCell c g from by unfold stageCell; rw [(stR_congr h).2], h]

/-- The staged tile taken, narrowed into its slot, and the next staging started. -/
theorem wp_fetchW (c : Dev nD) {h t : ℕ} (hh : h < 4) (ht : t < 8) (K : TP F) (Q : PUnit → sProp 𝕄) :
    iprop(slot m c (4 + 8 * h + t) ∗ owing c 0 ∗ levAts L lv ∗ wqAny c
        ∗ (slot m c (4 + 8 * h + t + 3) -∗ owing c 0 -∗ wqIs c t (nw (wblk m c (krow c h) t)) -∗ WP c K Q))
      ⊢ WP c (fetchW (canon c) h t K) Q := by
  rw [slot_lt m c (show 4 + 8 * h + t < 36 by omega), blk_w m c h ht]
  unfold fetchW
  iintro ⟨Hf, HO, Hlev, Hwq, HK⟩
  iapply (wp_arrive m c (4 + 8 * h + t) _ (wblk m c (krow c h) t) (above_zero 0))
  isplitl [Hf]; · iexact Hf
  isplitl [HO]; · iexact HO
  isplitl [Hlev]; · iexact Hlev
  iintro %u %hu Hidle HO
  iapply (wp_putW c t u _ hu)
  isplitl [Hwq]; · iexact Hwq
  iintro Hwq
  ihave Hidle := (Entails.of_eq (idle_add m c (4 + 8 * h + t)).symm) $$ Hidle
  by_cases h5 : t < 5
  · rw [if_pos h5, slot_lt m c (show 4 + 8 * h + t + 3 < 36 by omega), show 4 + 8 * h + t + 3 = 4 + 8 * h + (t + 3) from rfl, blk_w m c h (show t + 3 < 8 by omega)]
    iapply (wp_issue m c _ _ _ (readable_w m c _ (krow c h) (t + 3)))
    isplitl [Hidle]; · iexact Hidle
    iintro Hf
    iapply HK $$ Hf HO Hwq
  · rw [if_neg h5]
    by_cases h3 : h < 3
    · rw [if_pos h3, slot_lt m c (show 4 + 8 * h + t + 3 < 36 by omega)]
      rw [show blk m c (4 + 8 * h + t + 3) = wblk m c (krow c (h + 1)) (t - 5) from by
        rw [show 4 + 8 * h + t + 3 = 4 + 8 * (h + 1) + (t - 5) by omega]; exact blk_w m c (h + 1) (by omega)]
      iapply (wp_issue m c _ _ _ (readable_w m c _ (krow c (h + 1)) (t - 5)))
      isplitl [Hidle]; · iexact Hidle
      iintro Hf
      iapply HK $$ Hf HO Hwq
    · rw [if_neg h3, slot_end m c (show 36 ≤ 4 + 8 * h + t + 3 by omega)]
      iapply HK $$ Hidle HO Hwq

/-! ## The tiles, executed -/

/-- The three slots, the first of them that of block `g`. -/
def slots3 (c : Dev nD) (g : ℕ) : sProp 𝕄 := iprop(slot m c g ∗ slot m c (g + 1) ∗ slot m c (g + 2))
/-- The buffers every tile works with, tile `t` of phase `h` next and the output's column blocks holding `E`. -/
def work (c : Dev nD) (h t : ℕ) (E : ℕ → Vec F S1024x1024 .f32) : sProp 𝕄 :=
  iprop(slots3 m c (4 + 8 * h + t) ∗ owing c 0 ∗ levAts L lv ∗ wqAny c ∗ outIs c E)
/-- The block of phase `h` is awaited. -/
def pend (c : Dev nD) (h : ℕ) : sProp 𝕄 :=
  iprop(∃ κ : ℕ, cellInv ER (rd m) κ (recvCell c (kph c h)) ∗ cred (tallyAt (recvCell c (kph c h)) () N) ∗ atPos ER (recvCell c (kph c h)) 0 ∅ 0)
/-- The block of phase `h` has come. -/
def got (c : Dev nD) (h : ℕ) : sProp 𝕄 :=
  iprop(semVal (recvCell c (kph c h)) 0 ∗ holds c (xgSlot (go (kph c h)) (go_inb _)) (nx (xblk m (kph c h) c)))
/-- This device's own narrowed rows. -/
def ownX (c : Dev nD) : sProp 𝕄 := holds c (xqBlk (xo c) (xo_inb c)) (nx (xblk m c c))
/-- The two scales in their words. -/
def scal (c : Dev nD) (f₀ f₁ : S1.Idx → Elt F .f32) : sProp 𝕄 :=
  iprop((((c : Thread nD τ).loc cc0_stg0_0) ↦{fullShare} (f₀ : Buf (Elt F) ((c : Thread nD τ).loc cc0_stg0_0)))
    ∗ (((c : Thread nD τ).loc cc0_stg1_0) ↦{fullShare} (f₁ : Buf (Elt F) ((c : Thread nD τ).loc cc0_stg1_0))))
def oneOf (f : S1.Idx → Elt F .f32) : Elt F .f32 := f (Shape.Idx.first (numel1_S1.symm ▸ Nat.one_pos))

theorem wp_tileOwn (c : Dev nD) {t : ℕ} (ht : t < 8) (E : ℕ → Vec F S1024x1024 .f32) (K : TP F) (Q : PUnit → sProp 𝕄) :
    iprop((work m c 0 t (mix t (part m c 0) E) ∗ ownX m c) ∗ (work m c 0 (t + 1) (mix (t + 1) (part m c 0) E) ∗ ownX m c -∗ WP c K Q))
      ⊢ WP c (tileOwn (canon c) t K) Q := by
  unfold work slots3 tileOwn ownX
  iintro ⟨⟨⟨⟨Hs0, Hs1, Hs2⟩, HO, #Hlev, Hwq, Hout⟩, Hx⟩, HK⟩
  iapply (wp_fetchW m c (show 0 < 4 by decide) ht)
  isplitl [Hs0]; · iexact Hs0
  isplitl [HO]; · iexact HO
  isplitr; · iexact Hlev
  isplitl [Hwq]; · iexact Hwq
  iintro Hs3 HO Hwq
  unfold holds
  icases Hx with ⟨%f, %hf, Hx⟩
  iapply (wp_load_rect 𝒱₀ (c : Thread nD τ) none Set.univ (m := xqM) (r := Rect.unit (s := S4096x1024) (xo c) S1024x1024.size (xo_inb c))
    (S := (xqBlk (xo c) (xo_inb c)).view.set) (q := fullShare) (f := f) subset_rfl) $$ Hx
  iintro Hx
  iapply (wp_readW c t)
  isplitl [Hwq]; · iexact Hwq
  iintro %b %hb Hwq
  iapply (wp_readO c ht)
  isplitl [Hout]; · iexact Hout
  iintro Hout
  iapply (wp_putO c ht)
  isplitl [Hout]; · iexact Hout
  iintro Hout
  iapply HK
  isplitr [Hx]
  · isplitl [Hs1 Hs2 Hs3]
    · isplitl [Hs1]; · iexact Hs1
      isplitl [Hs2] <;> iassumption
    isplitl [HO]; · iexact HO
    isplitr; · iexact Hlev
    isplitl [Hwq]; · iexact Hwq
    rw [← mix_update, show part m c 0 t = k0_pay7 ((xqM.access (Rect.unit (s := S4096x1024) (xo c) S1024x1024.size (xo_inb c))).read (Elt F) f) b from by
      rw [pay7_eq, hb]; exact (congrArg (fun z => dotv z _) hf).symm]
    iexact Hout
  · iexists f
    isplitr; · ipureintro; exact hf
    iexact Hx

theorem krow_eq (c : Dev nD) (h : ℕ) : krow c (h + 1) = kph c (h + 1) := rfl

theorem wp_gate (c : Dev nD) (h t : ℕ) (K : TP F) (Q : PUnit → sProp 𝕄) :
    iprop(owing c 0 ∗ (if t = 0 then pend m c h else got m c h) ∗ (owing c 0 -∗ got m c h -∗ WP c K Q)) ⊢ WP c (gate (canon c) h t K) Q := by
  unfold gate
  by_cases h0 : t = 0
  · rw [if_pos h0, if_pos h0]
    unfold pend got
    iintro ⟨HO, ⟨%κ, Hi, Hc, Hat⟩, HK⟩
    iapply (wp_arrived m c h κ)
    isplitl [Hi]; · iexact Hi
    isplitl [Hc]; · iexact Hc
    isplitl [HO]; · iexact HO
    isplitl [Hat]; · iexact Hat
    iintro HO Hz Hh
    iapply HK $$ HO
    isplitl [Hz] <;> iassumption
  · rw [if_neg h0, if_neg h0]
    iintro ⟨HO, Hg, HK⟩
    iapply HK $$ HO Hg

theorem wp_tileAcc (c : Dev nD) {h t : ℕ} (hh : h < 3) (ht : t < 8) (K : TP F) (Q : PUnit → sProp 𝕄) :
    iprop((work m c (h + 1) t (mix t (part m c (h + 1)) (part m c h)) ∗ if t = 0 then pend m c (h + 1) else got m c (h + 1))
        ∗ (work m c (h + 1) (t + 1) (mix (t + 1) (part m c (h + 1)) (part m c h)) ∗ got m c (h + 1) -∗ WP c K Q))
      ⊢ WP c (tileAcc (canon c) (h + 1) t K) Q := by
  unfold work slots3 tileAcc
  iintro ⟨⟨⟨⟨Hs0, Hs1, Hs2⟩, HO, #Hlev, Hwq, Hout⟩, Hx⟩, HK⟩
  iapply (wp_fetchW m c (show h + 1 < 4 by omega) ht)
  isplitl [Hs0]; · iexact Hs0
  isplitl [HO]; · iexact HO
  isplitr; · iexact Hlev
  isplitl [Hwq]; · iexact Hwq
  iintro Hs3 HO Hwq
  iapply (wp_gate m c (h + 1) t)
  isplitl [HO]; · iexact HO
  isplitl [Hx]; · iexact Hx
  iintro HO Hx
  unfold got
  icases Hx with ⟨Hz, Hx⟩
  iapply (wp_readG c (h + 1))
  isplitl [Hx]; · iexact Hx
  iintro %a %ha Hx
  iapply (wp_readW c t)
  isplitl [Hwq]; · iexact Hwq
  iintro %b %hb Hwq
  iapply (wp_readO c ht)
  isplitl [Hout]; · iexact Hout
  iintro Hout
  iapply (wp_readO c ht)
  isplitl [Hout]; · iexact Hout
  iintro Hout
  iapply (wp_putO c ht)
  isplitl [Hout]; · iexact Hout
  iintro Hout
  iapply HK
  isplitr [Hx Hz]
  · isplitl [Hs1 Hs2 Hs3]
    · isplitl [Hs1]; · iexact Hs1
      isplitl [Hs2] <;> iassumption
    isplitl [HO]; · iexact HO
    isplitr; · iexact Hlev
    isplitl [Hwq]; · iexact Hwq
    rw [← mix_update, show part m c (h + 1) t = k0_pay24 a b (mix t (part m c (h + 1)) (part m c h) t) from by
      rw [pay24_eq, ha, hb, mix_at]; rfl]
    iexact Hout
  · isplitl [Hz] <;> iassumption

/-- The scale's word has one index. -/
theorem idx_one (i j : S1.Idx) : i = j := by
  funext a
  have ha : S1.size a = 1 := by fin_cases a; rfl
  exact Fin.ext (by have := (i a).isLt; have := (j a).isLt; omega)
theorem read_sx (f : S1.Idx → Elt F .f32) : (sxM.access oneR).read (Elt F) f (Shape.Idx.first (numel1_S1.symm ▸ Nat.one_pos)) = oneOf f := congrArg f (idx_one _ _)
theorem read_sw (f : S1.Idx → Elt F .f32) : (swM.access oneR).read (Elt F) f (Shape.Idx.first (numel1_S1.symm ▸ Nat.one_pos)) = oneOf f := congrArg f (idx_one _ _)

/-- The last phase leaves the result. -/
def fin (c : Dev nD) (f₀ f₁ : S1.Idx → Elt F .f32) (t : ℕ) : Vec F S1024x1024 .f32 := epi (oneOf f₀) (oneOf f₁) (part m c 3 t)

theorem wp_tileFin (c : Dev nD) {t : ℕ} (ht : t < 8) (f₀ f₁ : S1.Idx → Elt F .f32) (K : TP F) (Q : PUnit → sProp 𝕄) :
    iprop(((work m c 3 t (mix t (fin m c f₀ f₁) (part m c 2)) ∗ scal c f₀ f₁) ∗ if t = 0 then pend m c 3 else got m c 3)
        ∗ ((work m c 3 (t + 1) (mix (t + 1) (fin m c f₀ f₁) (part m c 2)) ∗ scal c f₀ f₁) ∗ got m c 3 -∗ WP c K Q))
      ⊢ WP c (tileFin (canon c) t K) Q := by
  unfold work slots3 tileFin scal
  iintro ⟨⟨⟨⟨⟨Hs0, Hs1, Hs2⟩, HO, #Hlev, Hwq, Hout⟩, Ha, Hb⟩, Hx⟩, HK⟩
  iapply (wp_fetchW m c (show 3 < 4 by omega) ht)
  isplitl [Hs0]; · iexact Hs0
  isplitl [HO]; · iexact HO
  isplitr; · iexact Hlev
  isplitl [Hwq]; · iexact Hwq
  iintro Hs3 HO Hwq
  iapply (wp_gate m c 3 t)
  isplitl [HO]; · iexact HO
  isplitl [Hx]; · iexact Hx
  iintro HO Hx
  unfold got
  icases Hx with ⟨Hz, Hx⟩
  iapply (wp_readG c 3)
  isplitl [Hx]; · iexact Hx
  iintro %a %ha Hx
  iapply (wp_readW c t)
  isplitl [Hwq]; · iexact Hwq
  iintro %b %hb Hwq
  iapply (wp_readO c ht)
  isplitl [Hout]; · iexact Hout
  iintro Hout
  iapply (wp_smemLoadElt 𝒱₀ (c : Thread nD τ) none Set.univ (m := sxM) (r := oneR) (S := Finset.univ) (q := fullShare) (f := f₀) (Finset.subset_univ _)) $$ Ha
  iintro Ha
  iapply (wp_smemLoadElt 𝒱₀ (c : Thread nD τ) none Set.univ (m := swM) (r := oneR) (S := Finset.univ) (q := fullShare) (f := f₁) (Finset.subset_univ _)) $$ Hb
  iintro Hb
  iapply (wp_readO c ht)
  isplitl [Hout]; · iexact Hout
  iintro Hout
  iapply (wp_putO c ht)
  isplitl [Hout]; · iexact Hout
  iintro Hout
  iapply HK
  isplitr [Hx Hz]
  · isplitr [Ha Hb]
    · isplitl [Hs1 Hs2 Hs3]
      · isplitl [Hs1]; · iexact Hs1
        isplitl [Hs2] <;> iassumption
      isplitl [HO]; · iexact HO
      isplitr; · iexact Hlev
      isplitl [Hwq]; · iexact Hwq
      rw [← mix_update, show fin m c f₀ f₁ t = k0_pay66 a b (mix t (fin m c f₀ f₁) (part m c 2) t)
          ((sxM.access oneR).read (Elt F) f₀ (Shape.Idx.first (numel1_S1.symm ▸ Nat.one_pos)))
          ((swM.access oneR).read (Elt F) f₁ (Shape.Idx.first (numel1_S1.symm ▸ Nat.one_pos))) from by
        rw [pay66_eq, ha, hb, mix_at, read_sx, read_sw]; rfl]
      iexact Hout
    · isplitl [Ha] <;> iassumption
  · isplitl [Hz] <;> iassumption

/-- Eight tiles, from the state of one to the state of the next. -/
theorem wp_tiles (c : Dev nD) (f : ℕ → TP F → TP F) (I : ℕ → sProp 𝕄)
    (step : ∀ t, t < 8 → ∀ (K : TP F) (Q : PUnit → sProp 𝕄), iprop(I t ∗ (I (t + 1) -∗ WP c K Q)) ⊢ WP c (f t K) Q) :
    ∀ n, n ≤ 8 → ∀ (K : TP F) (Q : PUnit → sProp 𝕄), iprop(I (8 - n) ∗ (I 8 -∗ WP c K Q)) ⊢ WP c (tiles f n K) Q
  | 0, _, K, Q => by
    iintro ⟨H, HK⟩
    iapply HK $$ H
  | n + 1, hn, K, Q => by
    show _ ⊢ WP c (f (7 - n) (tiles f n K)) Q
    iintro ⟨H, HK⟩
    iapply (step (7 - n) (by omega) (tiles f n K) Q)
    rw [show 8 - (n + 1) = 7 - n by omega]
    isplitl [H]; · iexact H
    iintro H
    iapply (wp_tiles c f I step n (by omega) K Q)
    rw [show 7 - n + 1 = 8 - n by omega]
    isplitl [H] <;> iassumption

end Cert.GemmProof
-- ==== Proof.Device.lean ====
/-
# The body on one device

The handshake, the narrowing and sending of the rows of `x`, the thirty-two tiles, the waits for the copies sent: from what a
device starts with to what it ends with.
-/
module

public import proofs.«01_k».proof.Proof.Tiles

@[expose] public section

noncomputable section

namespace Cert.GemmProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells, numbered -/

/-- A device's eight cells: its barrier, three for the copies it sends, four for those it may receive. -/
def csem : Fin 8 → SemLoc sig := fun
  | 0 => .reg barS | 1 => .dma (sdSem 0) | 2 => .dma (sdSem 1) | 3 => .dma (sdSem 2)
  | 4 => .dma (rcSem (so 0) (so_inb 0)) | 5 => .dma (rcSem (so 1) (so_inb 1)) | 6 => .dma (rcSem (so 2) (so_inb 2)) | 7 => .dma (rcSem (so 3) (so_inb 3))
def kcell (ck : Dev nD × Fin 8) : GSem nD τ sig := ((ck.1 : Thread nD τ), csem ck.2)

def kSend (g : ℕ) : Fin 8 := ⟨1 + g % 3, by omega⟩
def kRecv (s : Dev nD) : Fin 8 := ⟨4 + s.val, by have : s.val < 4 := s.isLt; omega⟩
theorem kcell_bar (c : Dev nD) : kcell (c, 0) = barCell c := rfl
theorem kcell_send (c : Dev nD) {g : ℕ} (hg : g < 3) : kcell (c, kSend g) = sendCell c g := by
  have h : g = 0 ∨ g = 1 ∨ g = 2 := by omega
  rcases h with rfl | rfl | rfl <;> rfl
theorem kcell_recv (c s : Dev nD) : kcell (c, kRecv s) = recvCell c s := by
  have key : ∀ s : Dev nD, csem (kRecv s) = .dma (rcSem (so s) (so_inb s)) := by intro s; fin_cases s <;> rfl
  exact congrArg (Prod.mk (c : Thread nD τ)) (key s)

/-- Every cell's invariant, and that every cell has reached its first round. -/
def records (K : Dev nD × Fin 8 → ℕ) : sProp 𝕄 :=
  iprop((bigSep Finset.univ fun ck : Dev nD × Fin 8 => cellInv ER (rd m) (K ck) (kcell ck))
    ∗ bigSep Finset.univ fun ck : Dev nD × Fin 8 => reached ER (kcell ck) 0)

instance records_persistent (K : Dev nD × Fin 8 → ℕ) : BI.Persistent (records m K) := by unfold records; infer_instance

variable (K : Dev nD × Fin 8 → ℕ)

theorem inv_at (ck : Dev nD × Fin 8) : records m K ⊢ cellInv ER (rd m) (K ck) (kcell ck) := by
  have key : (bigSep Finset.univ fun ck : Dev nD × Fin 8 => (cellInv ER (rd m) (K ck) (kcell ck) : sProp 𝕄)) ⊢ cellInv ER (rd m) (K ck) (kcell ck) :=
    bigSep_elim (Finset.mem_univ ck)
  unfold records
  iintro ⟨H, -⟩
  iapply key $$ H
theorem reached_at (ck : Dev nD × Fin 8) : records m K ⊢ reached ER (kcell ck) 0 := by
  have key : (bigSep Finset.univ fun ck : Dev nD × Fin 8 => (reached ER (kcell ck) 0 : sProp 𝕄)) ⊢ reached ER (kcell ck) 0 := bigSep_elim (Finset.mem_univ ck)
  unfold records
  iintro ⟨-, H⟩
  iapply key $$ H
theorem inv_bar (c : Dev nD) : records m K ⊢ cellInv ER (rd m) (K (c, 0)) (barCell c) := inv_at m K (c, 0)
theorem inv_send (c : Dev nD) {g : ℕ} (hg : g < 3) : records m K ⊢ cellInv ER (rd m) (K (c, kSend g)) (sendCell c g) := by
  rw [← kcell_send c hg]; exact inv_at m K (c, kSend g)
theorem inv_recv (c s : Dev nD) : records m K ⊢ cellInv ER (rd m) (K (c, kRecv s)) (recvCell c s) := by
  rw [← kcell_recv c s]; exact inv_at m K (c, kRecv s)
theorem reached_bar (c : Dev nD) : records m K ⊢ reached ER (barCell c) 0 := reached_at m K (c, 0)
theorem reached_send (c : Dev nD) {g : ℕ} (hg : g < 3) : records m K ⊢ reached ER (sendCell c g) 0 := by
  rw [← kcell_send c hg]; exact reached_at m K (c, kSend g)
theorem reached_recv (c s : Dev nD) : records m K ⊢ reached ER (recvCell c s) 0 := by
  rw [← kcell_recv c s]; exact reached_at m K (c, kRecv s)

/-! ## The handshake -/

/-- A signal to another device's barrier: this device's slot for it goes with it. -/
theorem wp_ready (c d : Dev nD) (hd : c ≠ d) {O O' : CellTallies nD τ sig Unit} (hO : O' = O + tallyAt (barCell d) () 1) (P : TP F) (Q : PUnit → sProp 𝕄) :
    iprop(records m K ∗ owing c O' ∗ dutyTok ER (barCell d) 0 c ∗ room c (xgSlot (go d) (go_inb d)) ∗ (owing c O -∗ WP c P Q))
      ⊢ WP c (.op (.semSignal (d, .tc) barS (1#32).toInt) fun _ => P) Q := by
  unfold owing
  iintro ⟨#HR, ⟨%W, HO⟩, Ht, Hroom, HK⟩
  iapply (Rounds.wp_signal 𝒱₀ ER (rd m) (c : Thread nD τ) none (dst := (d : Thread nD τ)) (κ := K (d, 0)) (d := c)
    (by rw [duties_bar]; exact Finset.mem_erase.mpr ⟨hd, Finset.mem_univ _⟩) ((amount_bar m d c).trans (by decide)) () O hO) $$ [HO Ht Hroom]
  · isplitr; · iapply (inv_bar m K d); iexact HR
    isplitl [HO]; · iexact HO
    isplitl [Ht]; · iexact Ht
    isplitl [Hroom]
    · rw [payload_bar]; unfold barPay
      isplitl [Hroom]; · iexact Hroom
      iapply (reached_recv m K c d); iexact HR
    · iapply (reached_bar m K d); iexact HR
  iintro HO
  iapply HK
  iexists W; iexact HO

/-- The wait for the three signals: the three slots this device fills, and the barrier's cell closed. -/
theorem wp_allReady (c : Dev nD) (P : TP F) (Q : PUnit → sProp 𝕄) :
    iprop(records m K ∗ owing c (O3 c) ∗ levAts L lv ∗ cred (tallyAt (barCell c) () 3) ∗ atPos ER (barCell c) 0 ∅ 0
        ∗ (owing c (O3 c) -∗ semVal (barCell c) 0 -∗ iprop(barPay c (sh 1 c) ∗ barPay c (sh 2 c) ∗ barPay c (sh 3 c)) -∗ WP c P Q))
      ⊢ WP c (.op (.semWait barS (3#32).toInt) fun _ => P) Q := by
  unfold owing
  iintro ⟨#HR, ⟨%W, HO⟩, #Hlev, Hc, Hat, HK⟩
  ihave #Hi := (inv_bar m K c) $$ HR
  iapply (Rounds.wp_wait_rest_token 𝒱₀ ER (rd m) (c : Thread nD τ) none (κ := K (c, 0))
      (wpE_semWait_eq 𝒱₀ (c : Thread nD τ) none Set.univ) (Set.mem_univ _) () (O := O3 c) (W := W) (R := 0) (m := 0) (T := ∅)
      (by rw [expect_bar]; decide)) $$ [Hc HO Hat]
  · isplitr; · iexact Hi
    isplitl [Hc]; · iexact Hc
    isplitl [HO]; · iexact HO
    isplitr; · iapply (mayWait_of c (.reg barS) 1 (le_refl 1) (above_O3 1 (by decide) c)); iexact Hlev
    iexact Hat
  iintro ⟨HO, Hat, -, Hpay⟩
  ihave Hp := (Entails.of_eq (rest_bar m c)) $$ Hpay
  imod (Rounds.cell_close ER (rd m) (Set.mem_univ (K (c, 0))) (fun h => h) (R := 0 + 1) (duties_later m (barCell c))) $$ [Hat] with Hz
  · isplitr; · iexact Hi
    iexact Hat
  ihave HK := HK $$ [HO]
  · iexists _; iexact HO
  iapply HK $$ Hz Hp

/-! ## The rows of `x` -/

/-- What the copy of step `g` needs beside the rows: its two tokens, and the receiver's slot. -/
def sendKit (c : Dev nD) (g : ℕ) : sProp 𝕄 :=
  iprop(dutyTok ER (sendCell c g) 0 c ∗ dutyTok ER (recvCell (xrow c g) c) 0 c ∗ room (xrow c g) (xgSlot (go c) (go_inb c)))

theorem wp_send' (c : Dev nD) {g : ℕ} (hg : g < 3) {O O' : CellTallies nD τ sig Unit}
    (hO : O' = O + tallyAt (recvCell (xrow c g) c) () N) (P : TP F) (Q : PUnit → sProp 𝕄) :
    iprop(records m K ∗ holds c (xqBlk (xo (xrow c g)) (xo_inb _)) (nx (xblk m c (xrow c g))) ∗ owing c O' ∗ sendKit c g
        ∗ (cred (tallyAt (sendCell c g) () N) -∗ owing c O -∗ WP c P Q))
      ⊢ WP c (send (canon c) g P) Q := by
  unfold sendKit
  iintro ⟨#HR, Hx, HO, ⟨Ht1, Ht2, Hd⟩, HK⟩
  iapply (wp_send m c hg (K (c, kSend g)) (K (xrow c g, kRecv c)) hO)
  isplitr; · iapply (inv_send m K c hg); iexact HR
  isplitr; · iapply (inv_recv m K (xrow c g) c); iexact HR
  isplitl [Hx]; · iexact Hx
  isplitl [Hd]; · iexact Hd
  isplitl [HO]; · iexact HO
  isplitl [Ht1]; · iexact Ht1
  isplitr; · iapply (reached_send m K c hg); iexact HR
  isplitl [Ht2]; · iexact Ht2
  isplitr; · iapply (reached_recv m K (xrow c g) c); iexact HR
  iexact HK

/-- The place of the rows step `g` narrows. -/
def xqRoom (c : Dev nD) (g : ℕ) : sProp 𝕄 := room (F := F) c (xqBlk (xo (xrow c g)) (xo_inb _))

/-- The narrowing of the rows, three blocks of them sent, and the first tiles' staging started. -/
theorem wp_head (c : Dev nD) (P : TP F) (Q : PUnit → sProp 𝕄) :
    iprop(records m K ∗ levAts L lv ∗ owing c (O3 c) ∗ (idle m c 0 ∗ idle m c 1 ∗ idle m c 2)
        ∗ (xqRoom c 0 ∗ xqRoom c 1 ∗ xqRoom c 2 ∗ xqRoom c 3) ∗ (sendKit c 0 ∗ sendKit c 1 ∗ sendKit c 2)
        ∗ (iprop(slots3 m c 4 ∗ owing c 0 ∗ ownX m c)
            -∗ iprop(cred (tallyAt (sendCell c 0) () N) ∗ cred (tallyAt (sendCell c 1) () N) ∗ cred (tallyAt (sendCell c 2) () N)) -∗ WP c P Q))
      ⊢ WP c (headSteps (canon c) P) Q := by
  unfold headSteps xqRoom
  iintro ⟨#HR, #Hlev, HO, ⟨Hi0, Hi1, Hi2⟩, ⟨Hx0, Hx1, Hx2, Hx3⟩, ⟨Hk0, Hk1, Hk2⟩, HK⟩
  iapply (wp_issue m c 0 _ _ (readable_x m c _ (xrow c 0))); isplitl [Hi0]; · iexact Hi0
  iintro Hf0
  iapply (wp_issue m c 1 _ _ (readable_x m c _ (xrow c 1))); isplitl [Hi1]; · iexact Hi1
  iintro Hf1
  iapply (wp_issue m c 2 _ _ (readable_x m c _ (xrow c 2))); isplitl [Hi2]; · iexact Hi2
  iintro Hf2
  -- the first block
  iapply (wp_fetchX m c 0 (xblk m c (xrow c 0)) (above_O3 0 (by decide) c))
  isplitl [Hf0]; · iexact Hf0
  isplitl [HO]; · iexact HO
  isplitr; · iexact Hlev
  isplitl [Hx0]; · iexact Hx0
  iintro Hi HO Hx0
  ihave Hi := (Entails.of_eq (idle_add m c 0).symm) $$ Hi
  iapply (wp_issue m c 3 _ _ (readable_x m c _ (xrow c 3))); isplitl [Hi]; · iexact Hi
  iintro Hf3
  iapply (wp_send' m K c (show 0 < 3 by decide) (show O3 c = O2 c + tallyAt (recvCell (xrow c 0) c) () N from rfl))
  isplitr; · iexact HR
  isplitl [Hx0]; · iexact Hx0
  isplitl [HO]; · iexact HO
  isplitl [Hk0]; · iexact Hk0
  iintro Hc0 HO
  -- the second
  iapply (wp_fetchX m c 1 (xblk m c (xrow c 1)) (above_O2 0 (by decide) c))
  isplitl [Hf1]; · iexact Hf1
  isplitl [HO]; · iexact HO
  isplitr; · iexact Hlev
  isplitl [Hx1]; · iexact Hx1
  iintro Hi HO Hx1
  ihave Hi := (Entails.of_eq (idle_add m c 1).symm) $$ Hi
  iapply (wp_issue m c 4 _ _ (readable_w m c _ (krow c 0) 0)); isplitl [Hi]; · iexact Hi
  iintro Hf4
  iapply (wp_send' m K c (show 1 < 3 by decide) (show O2 c = O1 c + tallyAt (recvCell (xrow c 1) c) () N from rfl))
  isplitr; · iexact HR
  isplitl [Hx1]; · iexact Hx1
  isplitl [HO]; · iexact HO
  isplitl [Hk1]; · iexact Hk1
  iintro Hc1 HO
  -- the third
  iapply (wp_fetchX m c 2 (xblk m c (xrow c 2)) (above_O1 0 (by decide) c))
  isplitl [Hf2]; · iexact Hf2
  isplitl [HO]; · iexact HO
  isplitr; · iexact Hlev
  isplitl [Hx2]; · iexact Hx2
  iintro Hi HO Hx2
  ihave Hi := (Entails.of_eq (idle_add m c 2).symm) $$ Hi
  iapply (wp_issue m c 5 _ _ (readable_w m c _ (krow c 0) 1)); isplitl [Hi]; · iexact Hi
  iintro Hf5
  iapply (wp_send' m K c (show 2 < 3 by decide) (show O1 c = 0 + tallyAt (recvCell (xrow c 2) c) () N from rfl))
  isplitr; · iexact HR
  isplitl [Hx2]; · iexact Hx2
  isplitl [HO]; · iexact HO
  isplitl [Hk2]; · iexact Hk2
  iintro Hc2 HO
  -- its own
  iapply (wp_fetchX m c 3 (xblk m c (xrow c 3)) (above_zero 0))
  isplitl [Hf3]; · iexact Hf3
  isplitl [HO]; · iexact HO
  isplitr; · iexact Hlev
  isplitl [Hx3]; · iexact Hx3
  iintro Hi HO Hx3
  ihave Hi := (Entails.of_eq (idle_add m c 3).symm) $$ Hi
  iapply (wp_issue m c 6 _ _ (readable_w m c _ (krow c 0) 2)); isplitl [Hi]; · iexact Hi
  iintro Hf6
  ihave HK := HK $$ [Hf4 Hf5 Hf6 HO Hx3]
  · isplitl [Hf4 Hf5 Hf6]
    · unfold slots3
      rw [slot_lt m c (show 4 < 36 by decide), slot_lt m c (show 4 + 1 < 36 by decide), slot_lt m c (show 4 + 2 < 36 by decide),
        show blk m c 4 = wblk m c (krow c 0) 0 from blk_w m c 0 (show 0 < 8 by decide),
        show blk m c (4 + 1) = wblk m c (krow c 0) 1 from blk_w m c 0 (show 1 < 8 by decide),
        show blk m c (4 + 2) = wblk m c (krow c 0) 2 from blk_w m c 0 (show 2 < 8 by decide)]
      isplitl [Hf4]; · iexact Hf4
      isplitl [Hf5] <;> iassumption
    isplitl [HO]; · iexact HO
    unfold ownX; iexact Hx3
  iapply HK
  isplitl [Hc0]; · iexact Hc0
  isplitl [Hc1] <;> iassumption

/-! ## The tiles and the end -/

/-- All thirty-two tiles. -/
theorem wp_tileSteps (c : Dev nD) (f₀ f₁ : S1.Idx → Elt F .f32) (E : ℕ → Vec F S1024x1024 .f32) (P : TP F) (Q : PUnit → sProp 𝕄) :
    iprop(work m c 0 0 E ∗ ownX m c ∗ (pend m c 1 ∗ pend m c 2 ∗ pend m c 3) ∗ scal c f₀ f₁
        ∗ (iprop(work m c 4 0 (fin m c f₀ f₁) ∗ ownX m c ∗ (got m c 1 ∗ got m c 2 ∗ got m c 3) ∗ scal c f₀ f₁) -∗ WP c P Q))
      ⊢ WP c (tileSteps (canon c) P) Q := by
  have next : ∀ (h : ℕ) (new prev : ℕ → Vec F S1024x1024 .f32), work m c h 8 (mix 8 new prev) ⊢ work m c (h + 1) 0 new := by
    intro h new prev
    unfold work
    rw [show 4 + 8 * (h + 1) + 0 = 4 + 8 * h + 8 by omega]
    iintro ⟨H1, H2, H3, H4, H5⟩
    isplitl [H1]; · iexact H1
    isplitl [H2]; · iexact H2
    isplitl [H3]; · iexact H3
    isplitl [H4]; · iexact H4
    iapply (outIs_done c new prev) $$ H5
  unfold tileSteps
  iintro ⟨Hw, Hx, ⟨Hp1, Hp2, Hp3⟩, Hs, HK⟩
  iapply (wp_tiles c (tileOwn (canon c)) (fun t => iprop(work m c 0 t (mix t (part m c 0) E) ∗ ownX m c))
    (fun t ht P Q => wp_tileOwn m c ht E P Q) 8 (le_refl 8))
  isplitl [Hw Hx]
  · rw [Nat.sub_self, mix_zero]; isplitl [Hw] <;> iassumption
  iintro ⟨Hw, Hx⟩
  ihave Hw := (next 0 _ _) $$ Hw
  iapply (wp_tiles c (tileAcc (canon c) 1) (fun t => iprop(work m c 1 t (mix t (part m c 1) (part m c 0)) ∗ if t = 0 then pend m c 1 else got m c 1))
    (fun t ht P Q => wp_tileAcc m c (show 0 < 3 by decide) ht P Q) 8 (le_refl 8))
  isplitl [Hw Hp1]
  · rw [Nat.sub_self, mix_zero, if_pos rfl]; isplitl [Hw] <;> iassumption
  iintro ⟨Hw, Hg1⟩
  ihave Hw := (next 1 _ _) $$ Hw
  iapply (wp_tiles c (tileAcc (canon c) 2) (fun t => iprop(work m c 2 t (mix t (part m c 2) (part m c 1)) ∗ if t = 0 then pend m c 2 else got m c 2))
    (fun t ht P Q => wp_tileAcc m c (show 1 < 3 by decide) ht P Q) 8 (le_refl 8))
  isplitl [Hw Hp2]
  · rw [Nat.sub_self, mix_zero, if_pos rfl]; isplitl [Hw] <;> iassumption
  iintro ⟨Hw, Hg2⟩
  ihave Hw := (next 2 _ _) $$ Hw
  iapply (wp_tiles c (tileFin (canon c))
    (fun t => iprop((work m c 3 t (mix t (fin m c f₀ f₁) (part m c 2)) ∗ scal c f₀ f₁) ∗ if t = 0 then pend m c 3 else got m c 3))
    (fun t ht P Q => wp_tileFin m c ht f₀ f₁ P Q) 8 (le_refl 8))
  isplitl [Hw Hs Hp3]
  · rw [Nat.sub_self, mix_zero, if_pos rfl]
    isplitl [Hw Hs]
    · isplitl [Hw] <;> iassumption
    · iexact Hp3
  iintro ⟨⟨Hw, Hs⟩, Hg3⟩
  ihave Hw := (next 3 _ _) $$ Hw
  iapply HK
  isplitl [Hw]; · iexact Hw
  isplitl [Hx]; · iexact Hx
  isplitl [Hg1 Hg2 Hg3]
  · ihave Hg1 := (Entails.of_eq (if_neg (show ¬ 8 = 0 by decide))) $$ Hg1
    ihave Hg2 := (Entails.of_eq (if_neg (show ¬ 8 = 0 by decide))) $$ Hg2
    ihave Hg3 := (Entails.of_eq (if_neg (show ¬ 8 = 0 by decide))) $$ Hg3
    isplitl [Hg1]; · iexact Hg1
    isplitl [Hg2] <;> iassumption
  · iexact Hs

/-- What a device's program starts with, beside the records: positions, tokens, credit, and everything it works in. -/
def begin (c : Dev nD) (f₀ f₁ : S1.Idx → Elt F .f32) (E : ℕ → Vec F S1024x1024 .f32) : sProp 𝕄 :=
  iprop((atPos ER (barCell c) 0 ∅ 0 ∗ cred (tallyAt (barCell c) () 3))
    ∗ (dutyTok ER (barCell (sh 1 c)) 0 c ∗ dutyTok ER (barCell (sh 2 c)) 0 c ∗ dutyTok ER (barCell (sh 3 c)) 0 c)
    ∗ (dutyTok ER (recvCell (sh 1 c) c) 0 c ∗ dutyTok ER (recvCell (sh 2 c) c) 0 c ∗ dutyTok ER (recvCell (sh 3 c) c) 0 c)
    ∗ (dutyTok ER (sendCell c 0) 0 c ∗ dutyTok ER (sendCell c 1) 0 c ∗ dutyTok ER (sendCell c 2) 0 c)
    ∗ (atPos ER (sendCell c 0) 0 ∅ 0 ∗ atPos ER (sendCell c 1) 0 ∅ 0 ∗ atPos ER (sendCell c 2) 0 ∅ 0)
    ∗ (pend m c 1 ∗ pend m c 2 ∗ pend m c 3) ∗ atPos ER (recvCell c c) 0 ∅ 0
    ∗ levAts L lv ∗ owing c (O6 c) ∗ (idle m c 0 ∗ idle m c 1 ∗ idle m c 2)
    ∗ (xqRoom c 0 ∗ xqRoom c 1 ∗ xqRoom c 2 ∗ xqRoom c 3)
    ∗ (room c (xgSlot (go (sh 1 c)) (go_inb _)) ∗ room c (xgSlot (go (sh 2 c)) (go_inb _)) ∗ room c (xgSlot (go (sh 3 c)) (go_inb _)))
    ∗ wqAny c ∗ outIs c E ∗ scal c f₀ f₁)

/-- What it ends with. -/
def ended (c : Dev nD) (f₀ f₁ : S1.Idx → Elt F .f32) : sProp 𝕄 :=
  iprop(semVal (barCell c) 0 ∗ (semVal (sendCell c 0) 0 ∗ semVal (sendCell c 1) 0 ∗ semVal (sendCell c 2) 0) ∗ semVal (recvCell c c) 0
    ∗ (got m c 1 ∗ got m c 2 ∗ got m c 3) ∗ owing c 0 ∗ (idle m c 0 ∗ idle m c 1 ∗ idle m c 2)
    ∗ (xqRoom c 0 ∗ xqRoom c 1 ∗ xqRoom c 2 ∗ xqRoom c 3) ∗ wqAny c ∗ outIs c (fin m c f₀ f₁) ∗ scal c f₀ f₁)

theorem sh_ne (c : Dev nD) : c ≠ sh 1 c ∧ c ≠ sh 2 c ∧ c ≠ sh 3 c := by revert c; decide
theorem idle_12 (c : Dev nD) (g : ℕ) : (idle m c (36 + g) : sProp 𝕄) = idle m c g := by
  have h : (36 + g) % 3 = g % 3 := by omega
  unfold idle
  rw [show stSlot (36 + g) = stSlot g from (stR_congr h).1, show stageCell c (36 + g) = stageCell c g from by unfold stageCell; rw [(stR_congr h).2], h]

/-- The body of device `c`. -/
theorem wp_device (c : Dev nD) (f₀ f₁ : S1.Idx → Elt F .f32) (E : ℕ → Vec F S1024x1024 .f32) (Q : PUnit → sProp 𝕄) :
    iprop(records m K ∗ begin m c f₀ f₁ E ∗ (ended m c f₀ f₁ -∗ Q ⟨⟩)) ⊢ WP c (deviceSteps (canon c)) Q := by
  unfold begin deviceSteps
  iintro ⟨#HR, ⟨⟨HatB, HcB⟩, ⟨HtB1, HtB2, HtB3⟩, ⟨HtR1, HtR2, HtR3⟩, ⟨HtS0, HtS1, HtS2⟩, ⟨HaS0, HaS1, HaS2⟩, Hpend, HaO, #Hlev, HO, Hidle, Hxq,
    ⟨Hg1, Hg2, Hg3⟩, Hwq, Hout, Hscal⟩, HK⟩
  iapply (wp_ready m K c (sh 1 c) (sh_ne c).1 (show O6 c = O5 c + tallyAt (barCell (sh 1 c)) () 1 from rfl))
  isplitr; · iexact HR
  isplitl [HO]; · iexact HO
  isplitl [HtB1]; · iexact HtB1
  isplitl [Hg1]; · iexact Hg1
  iintro HO
  iapply (wp_ready m K c (sh 2 c) (sh_ne c).2.1 (show O5 c = O4 c + tallyAt (barCell (sh 2 c)) () 1 from rfl))
  isplitr; · iexact HR
  isplitl [HO]; · iexact HO
  isplitl [HtB2]; · iexact HtB2
  isplitl [Hg2]; · iexact Hg2
  iintro HO
  iapply (wp_ready m K c (sh 3 c) (sh_ne c).2.2 (show O4 c = O3 c + tallyAt (barCell (sh 3 c)) () 1 from rfl))
  isplitr; · iexact HR
  isplitl [HO]; · iexact HO
  isplitl [HtB3]; · iexact HtB3
  isplitl [Hg3]; · iexact Hg3
  iintro HO
  iapply (wp_allReady m K c)
  isplitr; · iexact HR
  isplitl [HO]; · iexact HO
  isplitr; · iexact Hlev
  isplitl [HcB]; · iexact HcB
  isplitl [HatB]; · iexact HatB
  iintro HO HzB ⟨Hd1, Hd2, Hd3⟩
  unfold barPay
  icases Hd1 with ⟨Hd1, -⟩
  icases Hd2 with ⟨Hd2, -⟩
  icases Hd3 with ⟨Hd3, -⟩
  iapply (wp_head m K c)
  isplitr; · iexact HR
  isplitr; · iexact Hlev
  isplitl [HO]; · iexact HO
  isplitl [Hidle]; · iexact Hidle
  isplitl [Hxq]; · iexact Hxq
  isplitl [HtS0 HtS1 HtS2 HtR1 HtR2 HtR3 Hd1 Hd2 Hd3]
  · unfold sendKit
    isplitl [HtS0 HtR1 Hd1]
    · isplitl [HtS0]; · iexact HtS0
      isplitl [HtR1]; · iexact HtR1
      iexact Hd1
    isplitl [HtS1 HtR3 Hd3]
    · isplitl [HtS1]; · iexact HtS1
      isplitl [HtR3]; · iexact HtR3
      iexact Hd3
    · isplitl [HtS2]; · iexact HtS2
      isplitl [HtR2]; · iexact HtR2
      iexact Hd2
  iintro ⟨Hs3, HO, Hx⟩ ⟨Hc0, Hc1, Hc2⟩
  iapply (wp_tileSteps m c f₀ f₁ E)
  isplitl [Hs3 HO Hwq Hout]
  · unfold work
    isplitl [Hs3]; · iexact Hs3
    isplitl [HO]; · iexact HO
    isplitr; · iexact Hlev
    isplitl [Hwq] <;> iassumption
  isplitl [Hx]; · iexact Hx
  isplitl [Hpend]; · iexact Hpend
  isplitl [Hscal]; · iexact Hscal
  iintro ⟨Hw, Hx, Hgot, Hscal⟩
  unfold work slots3
  icases Hw with ⟨⟨Hi0, Hi1, Hi2⟩, HO, -, Hwq, Hout⟩
  iapply (wp_sent m c (show 0 < 3 by decide) (K (c, kSend 0)))
  isplitr; · iapply (inv_send m K c (show 0 < 3 by decide)); iexact HR
  isplitl [Hc0]; · iexact Hc0
  isplitl [HO]; · iexact HO
  isplitl [HaS0]; · iexact HaS0
  iintro HO Hz0 Hq0
  iapply (wp_sent m c (show 1 < 3 by decide) (K (c, kSend 1)))
  isplitr; · iapply (inv_send m K c (show 1 < 3 by decide)); iexact HR
  isplitl [Hc1]; · iexact Hc1
  isplitl [HO]; · iexact HO
  isplitl [HaS1]; · iexact HaS1
  iintro HO Hz1 Hq1
  iapply (wp_sent m c (show 2 < 3 by decide) (K (c, kSend 2)))
  isplitr; · iapply (inv_send m K c (show 2 < 3 by decide)); iexact HR
  isplitl [Hc2]; · iexact Hc2
  isplitl [HO]; · iexact HO
  isplitl [HaS2]; · iexact HaS2
  iintro HO Hz2 Hq2
  imod (Rounds.cell_close ER (rd m) (Set.mem_univ (K (c, kRecv c))) (fun h => h) (R := 0) (fun r _ => duties_own m c r)) $$ [HaO] with HzO
  · isplitr; · iapply (inv_recv m K c c); iexact HR
    iexact HaO
  rw [wp_ret]; imodintro
  iapply HK
  unfold ended
  isplitl [HzB]; · iexact HzB
  isplitl [Hz0 Hz1 Hz2]
  · isplitl [Hz0]; · iexact Hz0
    isplitl [Hz1] <;> iassumption
  isplitl [HzO]; · iexact HzO
  isplitl [Hgot]; · iexact Hgot
  isplitl [HO]; · iexact HO
  isplitl [Hi0 Hi1 Hi2]
  · ihave Hi0 := (Entails.of_eq (show (slot m c (4 + 8 * 4 + 0) : sProp 𝕄) = idle m c 0 from (slot_end m c (by decide)).trans (idle_12 m c 0))) $$ Hi0
    ihave Hi1 := (Entails.of_eq (show (slot m c (4 + 8 * 4 + 0 + 1) : sProp 𝕄) = idle m c 1 from (slot_end m c (by decide)).trans (idle_12 m c 1))) $$ Hi1
    ihave Hi2 := (Entails.of_eq (show (slot m c (4 + 8 * 4 + 0 + 2) : sProp 𝕄) = idle m c 2 from (slot_end m c (by decide)).trans (idle_12 m c 2))) $$ Hi2
    isplitl [Hi0]; · iexact Hi0
    isplitl [Hi1] <;> iassumption
  isplitl [Hq0 Hq1 Hq2 Hx]
  · unfold xqRoom ownX
    isplitl [Hq0]; · iexact Hq0
    isplitl [Hq1]; · iexact Hq1
    isplitl [Hq2]; · iexact Hq2
    iapply (holds_room c _ _) $$ Hx
  isplitl [Hwq]; · iexact Hwq
  isplitl [Hout] <;> iassumption

end Cert.GemmProof
-- ==== Proof.Memory.lean ====
/-
# The buffers, held piece by piece

The launch hands a device each scratch buffer whole and its two arguments in device memory whole. The body holds the
staging buffer and the gather buffer slot by slot, the narrow copy block of rows by block of rows, and each argument
through three read shares. These theorems cut the buffers and join them back.
-/
module

public import proofs.«01_k».proof.Proof.Device
public import Idealize.ShloMosaic.Lib.Ring

@[expose] public section

noncomputable section

namespace Cert.GemmProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A buffer of device `c`, whole, at some contents. -/
def some' (c : Dev nD) (b : Ref sig .tc) : sProp 𝕄 :=
  iprop(∃ f : Buf (Elt F) ((c : Thread nD τ).loc b), ((c : Thread nD τ).loc b) ↦{fullShare} f)

/-- Pieces that are disjoint and cover the buffer: held whole, the pieces are held. -/
theorem cut {B : Type} [Fintype B] [DecidableEq B] (c : Dev nD) (b : Ref sig .tc) (I : B → Finset (Idx ((c : Thread nD τ).loc b)))
    (hd : ∀ x y, x ≠ y → Disjoint (I x) (I y)) (hc : Finset.univ.biUnion I = Finset.univ) :
    some' (F := F) c b ⊢ bigSep Finset.univ fun x => iprop(∃ f, ((c : Thread nD τ).loc b) ↦[I x]{fullShare} f) := by
  unfold some'
  iintro ⟨%f, H⟩
  ihave H' := (Entails.of_eq (Ring.pointsTo_blocks I hd hc f)) $$ H
  have key : (bigSep Finset.univ fun x => (((c : Thread nD τ).loc b) ↦[I x]{fullShare} f : sProp 𝕄))
      ⊢ bigSep Finset.univ fun x => iprop(∃ f, ((c : Thread nD τ).loc b) ↦[I x]{fullShare} f) := bigSep_mono fun x _ =>
    show (((c : Thread nD τ).loc b) ↦[I x]{fullShare} f : sProp 𝕄) ⊢ iprop(∃ f, ((c : Thread nD τ).loc b) ↦[I x]{fullShare} f) from by
      iintro H; iexists f; iexact H
  iapply key $$ H'
/-- And the pieces held, the whole is held. -/
theorem paste {B : Type} [Fintype B] [DecidableEq B] (c : Dev nD) (b : Ref sig .tc) (I : B → Finset (Idx ((c : Thread nD τ).loc b)))
    (hd : ∀ x y, x ≠ y → Disjoint (I x) (I y)) (hc : Finset.univ.biUnion I = Finset.univ) :
    (bigSep Finset.univ fun x => iprop(∃ f, ((c : Thread nD τ).loc b) ↦[I x]{fullShare} f)) ⊢ some' (F := F) c b :=
  Ring.pointsTo_blocks_join_exists I hd hc (Classical.arbitrary _)

/-! ## The gather buffer -/

theorem set_xgSlot (s : Dev nD) : (xgSlot (go s) (go_inb s)).view.set = (Rect.unit (s := S4x1024x1024) (go s) S1x1024x1024.size (go_inb s)).set :=
  (View.set_reshape (xgM.access (Rect.unit (s := S4x1024x1024) (go s) S1x1024x1024.size (go_inb s))) _).trans (View.set_slice_whole _ _)
theorem xg_disjoint (s s' : Dev nD) (h : s ≠ s') : Disjoint (xgSlot (go s) (go_inb s)).view.set (xgSlot (go s') (go_inb s')).view.set := by
  rw [set_xgSlot, set_xgSlot]
  exact Ring.lead_disjoint (s := S4x1024x1024) (0 : Fin 3) 1 (fun b : Fin 4 => go b) S1x1024x1024.size go_inb (fun b => (Nat.one_mul _).symm) rfl s s' h
theorem xg_cover : (Finset.univ : Finset (Dev nD)).biUnion (β := S4x1024x1024.Idx) (fun s => (xgSlot (go s) (go_inb s)).view.set) = Finset.univ := by
  refine (Finset.biUnion_congr rfl fun s _ => set_xgSlot s).trans ?_
  exact Ring.lead_cover (s := S4x1024x1024) (0 : Fin 3) 1 (fun b : Fin 4 => go b) S1x1024x1024.size go_inb (fun b => (Nat.one_mul _).symm)
    (fun b a ha => by fin_cases a <;> first | exact absurd rfl ha | rfl) rfl (fun a ha => by fin_cases a <;> first | exact absurd rfl ha | rfl) rfl

theorem gather_cut (c : Dev nD) : some' (F := F) c cc0_scratch2 ⊢ iprop(room c (xgSlot (go c) (go_inb _))
    ∗ room c (xgSlot (go (sh 1 c)) (go_inb _)) ∗ room c (xgSlot (go (sh 2 c)) (go_inb _)) ∗ room c (xgSlot (go (sh 3 c)) (go_inb _))) :=
  (cut c cc0_scratch2 (fun s : Dev nD => (xgSlot (go s) (go_inb s)).view.set) xg_disjoint xg_cover).trans
    (Entails.of_eq (bigSep_dev c (fun s => room c (xgSlot (go s) (go_inb s)))))

theorem bigSep_kph (c : Dev nD) (Φ : Dev nD → sProp 𝕄) : bigSep Finset.univ Φ = iprop(Φ c ∗ Φ (kph c 1) ∗ Φ (kph c 2) ∗ Φ (kph c 3)) :=
  bigSep_univ_eq_bigSepL [c, kph c 1, kph c 2, kph c 3] (by revert c; decide) (by revert c; decide) Φ
theorem gather_paste (c : Dev nD) : iprop(room c (xgSlot (go c) (go_inb _))
    ∗ room c (xgSlot (go (kph c 1)) (go_inb _)) ∗ room c (xgSlot (go (kph c 2)) (go_inb _)) ∗ room c (xgSlot (go (kph c 3)) (go_inb _))) ⊢ some' (F := F) c cc0_scratch2 :=
  (Entails.of_eq (bigSep_kph c (fun s => room c (xgSlot (go s) (go_inb s)))).symm).trans
    (paste c cc0_scratch2 (fun s : Dev nD => (xgSlot (go s) (go_inb s)).view.set) xg_disjoint xg_cover)

/-! ## The narrow copy of the rows -/

theorem set_xqBlk (r : Dev nD) : (xqBlk (xo r) (xo_inb r)).view.set = (Rect.unit (s := S4096x1024) (xo r) S1024x1024.size (xo_inb r)).set := View.set_slice_whole _ _
theorem xq_disjoint (r r' : Dev nD) (h : r ≠ r') : Disjoint (xqBlk (xo r) (xo_inb r)).view.set (xqBlk (xo r') (xo_inb r')).view.set := by
  rw [set_xqBlk, set_xqBlk]
  exact Ring.lead_disjoint (s := S4096x1024) (0 : Fin 2) 1024 (fun b : Fin 4 => xo b) S1024x1024.size xo_inb (fun b => rfl) rfl r r' h
theorem xq_cover : (Finset.univ : Finset (Dev nD)).biUnion (β := S4096x1024.Idx) (fun r => (xqBlk (xo r) (xo_inb r)).view.set) = Finset.univ := by
  refine (Finset.biUnion_congr rfl fun r _ => set_xqBlk r).trans ?_
  exact Ring.lead_cover (s := S4096x1024) (0 : Fin 2) 1024 (fun b : Fin 4 => xo b) S1024x1024.size xo_inb (fun b => rfl)
    (fun b a ha => by fin_cases a <;> first | exact absurd rfl ha | rfl) rfl (fun a ha => by fin_cases a <;> first | exact absurd rfl ha | rfl) rfl

theorem bigSep_xrow (c : Dev nD) (Φ : Dev nD → sProp 𝕄) : bigSep Finset.univ Φ = iprop(Φ (xrow c 0) ∗ Φ (xrow c 1) ∗ Φ (xrow c 2) ∗ Φ (xrow c 3)) :=
  bigSep_univ_eq_bigSepL [xrow c 0, xrow c 1, xrow c 2, xrow c 3] (by revert c; decide) (by revert c; decide) Φ
theorem rows_cut (c : Dev nD) : some' (F := F) c cc0_scratch1 ⊢ iprop(xqRoom c 0 ∗ xqRoom c 1 ∗ xqRoom c 2 ∗ xqRoom c 3) :=
  (cut c cc0_scratch1 (fun r : Dev nD => (xqBlk (xo r) (xo_inb r)).view.set) xq_disjoint xq_cover).trans
    (Entails.of_eq (bigSep_xrow c (fun r => room c (xqBlk (xo r) (xo_inb r)))))
theorem rows_paste (c : Dev nD) : iprop(xqRoom c 0 ∗ xqRoom c 1 ∗ xqRoom c 2 ∗ xqRoom c 3) ⊢ some' (F := F) c cc0_scratch1 :=
  (Entails.of_eq (bigSep_xrow c (fun r => room c (xqBlk (xo r) (xo_inb r)))).symm).trans
    (paste c cc0_scratch1 (fun r : Dev nD => (xqBlk (xo r) (xo_inb r)).view.set) xq_disjoint xq_cover)

/-! ## The staging buffer -/

theorem set_stSlot' (g : ℕ) : (stSlot g).view.set = (stR g).set := (set_stSlot g).trans (View.set_slice_whole _ _)
theorem st_disjoint (g g' : Fin 3) (h : g ≠ g') : Disjoint (stSlot g.val).view.set (stSlot g'.val).view.set := by
  rw [set_stSlot', set_stSlot']
  exact Ring.lead_disjoint (s := S3x1024x1024) (0 : Fin 3) 1 (fun b : Fin 3 => ![b.val % 3, 0, 0]) S1x1024x1024.size (fun b => stg_inb b.val)
    (fun b => (Nat.mod_eq_of_lt b.isLt).trans (Nat.one_mul _).symm) rfl g g' h
theorem st_cover : (Finset.univ : Finset (Fin 3)).biUnion (β := S3x1024x1024.Idx) (fun g => (stSlot g.val).view.set) = Finset.univ := by
  refine (Finset.biUnion_congr rfl fun g _ => set_stSlot' g.val).trans ?_
  exact Ring.lead_cover (s := S3x1024x1024) (0 : Fin 3) 1 (fun b : Fin 3 => ![b.val % 3, 0, 0]) S1x1024x1024.size (fun b => stg_inb b.val)
    (fun b => (Nat.mod_eq_of_lt b.isLt).trans (Nat.one_mul _).symm)
    (fun b a ha => by fin_cases a <;> first | exact absurd rfl ha | rfl) rfl (fun a ha => by fin_cases a <;> first | exact absurd rfl ha | rfl) rfl

theorem bigSep_three (Φ : Fin 3 → sProp 𝕄) : bigSep Finset.univ Φ = iprop(Φ 0 ∗ Φ 1 ∗ Φ 2) := bigSep_univ_eq_bigSepL [0, 1, 2] (by decide) (by decide) Φ
theorem stage_cut (c : Dev nD) : some' (F := F) c cc0_scratch0 ⊢ iprop(room c (stSlot 0) ∗ room c (stSlot 1) ∗ room c (stSlot 2)) :=
  (cut c cc0_scratch0 (fun g : Fin 3 => (stSlot g.val).view.set) st_disjoint st_cover).trans
    (Entails.of_eq (bigSep_three (fun g => room c (stSlot g.val))))
theorem stage_paste (c : Dev nD) : iprop(room c (stSlot 0) ∗ room c (stSlot 1) ∗ room c (stSlot 2)) ⊢ some' (F := F) c cc0_scratch0 :=
  (Entails.of_eq (bigSep_three (fun g => room c (stSlot g.val))).symm).trans
    (paste c cc0_scratch0 (fun g : Fin 3 => (stSlot g.val).view.set) st_disjoint st_cover)

/-! ## The arguments in device memory -/

/-- The two arguments, whole, as the run finds them. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))
/-- The share of them nothing reads through. -/
def argsKept (c : Dev nD) : sProp 𝕄 :=
  iprop((((c : Thread nD τ).loc main_arg0) ↦{Transfers.shareDrop fullShare 3} m ((c : Thread nD τ).loc main_arg0))
    ∗ (((c : Thread nD τ).loc main_arg1) ↦{Transfers.shareDrop fullShare 3} m ((c : Thread nD τ).loc main_arg1)))

theorem bigSep_range3 (Φ : ℕ → sProp 𝕄) : bigSep (Finset.range 3) Φ = iprop(Φ 0 ∗ Φ 1 ∗ Φ 2) :=
  by
  rw [bigSep_eq_bigSepL_of_eq [0, 1, 2] (by decide) (by decide)]; rfl

theorem args_deal (c : Dev nD) : args m c ⊢ iprop(argsKept m c ∗ hbm m c 0 ∗ hbm m c 1 ∗ hbm m c 2) := by
  unfold args argsKept hbm
  iintro ⟨H0, H1⟩
  ihave H0 := (Transfers.pointsTo_toks_range fullShare 3).1 $$ H0
  ihave H1 := (Transfers.pointsTo_toks_range fullShare 3).1 $$ H1
  icases H0 with ⟨K0, T0⟩
  icases H1 with ⟨K1, T1⟩
  ihave T0 := (Entails.of_eq (bigSep_range3 _)) $$ T0
  ihave T1 := (Entails.of_eq (bigSep_range3 _)) $$ T1
  icases T0 with ⟨A0, A1, A2⟩
  icases T1 with ⟨B0, B1, B2⟩
  isplitl [K0 K1]
  · isplitl [K0] <;> iassumption
  isplitl [A0 B0]
  · isplitl [A0] <;> iassumption
  isplitl [A1 B1]
  · isplitl [A1] <;> iassumption
  · isplitl [A2] <;> iassumption

theorem args_whole (c : Dev nD) : iprop(argsKept m c ∗ hbm m c 0 ∗ hbm m c 1 ∗ hbm m c 2) ⊢ args m c := by
  have key : ∀ (ℓ : Loc nD τ sig) (f : Buf (Elt F) ℓ), iprop((ℓ ↦{Transfers.shareDrop fullShare 3} f)
      ∗ (ℓ ↦{Transfers.shareTokN fullShare 0} f) ∗ (ℓ ↦{Transfers.shareTokN fullShare 1} f) ∗ (ℓ ↦{Transfers.shareTokN fullShare 2} f)) ⊢ (ℓ ↦{fullShare} f : sProp 𝕄) := by
    intro ℓ f
    rw [← bigSep_range3 (fun i => (ℓ ↦{Transfers.shareTokN fullShare i} f : sProp 𝕄))]
    exact (Transfers.pointsTo_toks_range fullShare 3).2
  unfold args argsKept hbm
  iintro ⟨⟨K0, K1⟩, ⟨A0, B0⟩, ⟨A1, B1⟩, A2, B2⟩
  isplitl [K0 A0 A1 A2]
  · iapply (key ((c : Thread nD τ).loc main_arg0) (m ((c : Thread nD τ).loc main_arg0)))
    isplitl [K0]; · iexact K0
    isplitl [A0]; · iexact A0
    isplitl [A1] <;> iassumption
  · iapply (key ((c : Thread nD τ).loc main_arg1) (m ((c : Thread nD τ).loc main_arg1)))
    isplitl [K1]; · iexact K1
    isplitl [B0]; · iexact B0
    isplitl [B1] <;> iassumption

/-! ## The output block -/

/-- The output block in its columns: `fin` at the tile of each column. -/
def outBlock (c : Dev nD) (f₀ f₁ : S1.Idx → Elt F .f32) : S1024x8192.Idx → Elt F .f32 :=
  fun i => fin m c f₀ f₁ ((i (1 : Fin 2)).val / 1024) (fun | ⟨0, _⟩ => ⟨(i (0 : Fin 2)).val, (i (0 : Fin 2)).isLt⟩ | ⟨1, _⟩ => ⟨(i (1 : Fin 2)).val % 1024, Nat.mod_lt _ (by decide)⟩)

/-- A block whose column blocks read `fin` is `outBlock`. -/
theorem outBlock_of (c : Dev nD) (f₀ f₁ : S1.Idx → Elt F .f32) (A : S1024x8192.Idx → Elt F .f32)
    (h : ∀ t, t < 8 → (oM.access (oR t)).read (Elt F) A = fin m c f₀ f₁ t) : A = outBlock m c f₀ f₁ := by
  funext i
  have h1 : (i (1 : Fin 2)).val < 8192 := (i (1 : Fin 2)).isLt
  unfold outBlock
  have ht : (i (1 : Fin 2)).val / 1024 < 8 := by omega
  rw [← h _ ht]
  refine congrArg A (funext fun a => Fin.ext ?_)
  fin_cases a
  · show (i (0 : Fin 2)).val = 0 + 1 * (i (0 : Fin 2)).val
    omega
  · show (i (1 : Fin 2)).val = 1024 * ((i (1 : Fin 2)).val / 1024 % 8) + 1 * ((i (1 : Fin 2)).val % 1024)
    omega

end Cert.GemmProof

end
-- ==== Proof.Launch.lean ====
/-
# What the launch deals each device

The resources the run starts from, as the launch mints and deals them: each device's positions at its own eight cells, the
tokens of the duties it pays, its three staging semaphores, and its credit.
-/
module

public import proofs.«01_k».proof.Proof.Memory

@[expose] public section

noncomputable section

namespace Cert.GemmProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

/-- The kernel's ten own semaphores: staging, send, receive. -/
def osem : Fin 10 → SemLoc sig := fun
  | 0 => .dma (stSem 0) | 1 => .dma (stSem 1) | 2 => .dma (stSem 2)
  | 3 => .dma (sdSem 0) | 4 => .dma (sdSem 1) | 5 => .dma (sdSem 2)
  | 6 => .dma (rcSem (so 0) (so_inb 0)) | 7 => .dma (rcSem (so 1) (so_inb 1)) | 8 => .dma (rcSem (so 2) (so_inb 2)) | 9 => .dma (rcSem (so 3) (so_inb 3))
theorem ownSemFacts : Pipeline.OwnSemFacts cfg0.spec osem := by decide

theorem csem_injective : Function.Injective csem := by decide
theorem kcell_injective : Function.Injective kcell := by
  rintro ⟨c, k⟩ ⟨c', k'⟩ h
  have h1 : c = c' := congrArg (fun g : GSem nD τ sig => g.1.1) h
  subst h1
  have h2 : k = k' := csem_injective (congrArg Prod.snd h)
  subst h2; rfl
def allCells : Finset (GSem nD τ sig) := Finset.univ.map ⟨kcell, kcell_injective⟩

/-- The token of the `j`-th duty device `c` pays: its three signals, its three copies' arrivals, their departures. -/
def tokOf (cj : Dev nD × Fin 9) : GSem nD τ sig × ℕ × Dev nD := match cj.2 with
  | 0 => (barCell (sh 1 cj.1), 0, cj.1) | 1 => (barCell (sh 2 cj.1), 0, cj.1) | 2 => (barCell (sh 3 cj.1), 0, cj.1)
  | 3 => (recvCell (sh 1 cj.1) cj.1, 0, cj.1) | 4 => (recvCell (sh 2 cj.1) cj.1, 0, cj.1) | 5 => (recvCell (sh 3 cj.1) cj.1, 0, cj.1)
  | 6 => (sendCell cj.1 0, 0, cj.1) | 7 => (sendCell cj.1 1, 0, cj.1) | 8 => (sendCell cj.1 2, 0, cj.1)
/-- Which device and which semaphore a token is at. -/
def tokAt (c : Dev nD) (j : Fin 9) : Dev nD × SemLoc sig := ((tokOf (c, j)).1.1.1, (tokOf (c, j)).1.2)
theorem tokAt_injective : ∀ c : Dev nD, Function.Injective (tokAt c) := by decide
theorem tokOf_injective : Function.Injective tokOf := by
  rintro ⟨c, j⟩ ⟨c', j'⟩ h
  have hn : ∀ (c : Dev nD) (j : Fin 9), (tokOf (c, j)).2.2 = c := by intro c j; fin_cases j <;> rfl
  have h1 : c = c' := by have := congrArg (fun x : GSem nD τ sig × ℕ × Dev nD => x.2.2) h; simp only [hn] at this; exact this
  subst h1
  rw [tokAt_injective c (congrArg (fun x : GSem nD τ sig × ℕ × Dev nD => (x.1.1.1, x.1.2)) h : tokAt c j = tokAt c j')]
def allToks : Finset (GSem nD τ sig × ℕ × Dev nD) := Finset.univ.map ⟨tokOf, tokOf_injective⟩

/-- The launch's element: the pipeline's, the cells' and tokens', no counter used. -/
def u₀ : UU := (initOf (Pipeline.cells cfgs cellOf_inj) (Pipeline.launchToks cfgs cellOf_inj), (initOf allCells allToks, 1))

/-! ## Conjunctions written out -/

theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_zeroth (Φ : Dev nD → sProp 𝕄) : bigSep Finset.univ Φ = iprop(Φ 0 ∗ Φ 1 ∗ Φ 2 ∗ Φ 3) :=
  bigSep_univ_eq_bigSepL [0, 1, 2, 3] (by decide) (by decide) Φ

/-- A statement of each of a device's cells, the receive cells taken own first and then in the order of the phases. -/
theorem cells_listed (c : Dev nD) (Φ : GSem nD τ sig → sProp 𝕄) : (bigSep Finset.univ fun k : Fin 8 => Φ (kcell (c, k)))
    ⊢ iprop(Φ (barCell c) ∗ (Φ (sendCell c 0) ∗ Φ (sendCell c 1) ∗ Φ (sendCell c 2))
      ∗ Φ (recvCell c c) ∗ Φ (recvCell c (kph c 1)) ∗ Φ (recvCell c (kph c 2)) ∗ Φ (recvCell c (kph c 3))) := by
  rw [bigSep_eight, ← bigSep_kph c (fun s => Φ (recvCell c s)), bigSep_zeroth]
  show iprop(Φ (barCell c) ∗ Φ (sendCell c 0) ∗ Φ (sendCell c 1) ∗ Φ (sendCell c 2) ∗ Φ (recvCell c 0) ∗ Φ (recvCell c 1) ∗ Φ (recvCell c 2) ∗ Φ (recvCell c 3)) ⊢ _
  iintro ⟨H0, H1, H2, H3, H4⟩
  isplitl [H0]; · iexact H0
  isplitl [H1 H2 H3]
  · isplitl [H1]; · iexact H1
    isplitl [H2] <;> iassumption
  · iexact H4

/-! ## Minting -/

/-- The tokens of the duties device `c` pays. -/
def payToks (c : Dev nD) : sProp 𝕄 :=
  iprop((dutyTok ER (barCell (sh 1 c)) 0 c ∗ dutyTok ER (barCell (sh 2 c)) 0 c ∗ dutyTok ER (barCell (sh 3 c)) 0 c)
    ∗ (dutyTok ER (recvCell (sh 1 c) c) 0 c ∗ dutyTok ER (recvCell (sh 2 c) c) 0 c ∗ dutyTok ER (recvCell (sh 3 c) c) 0 c)
    ∗ (dutyTok ER (sendCell c 0) 0 c ∗ dutyTok ER (sendCell c 1) 0 c ∗ dutyTok ER (sendCell c 2) 0 c))

theorem payToks_of (c : Dev nD) : (bigSep Finset.univ fun j : Fin 9 => (dutyTok ER (tokOf (c, j)).1 (tokOf (c, j)).2.1 (tokOf (c, j)).2.2 : sProp 𝕄)) ⊢ payToks c := by
  rw [bigSep_nine]; unfold payToks
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  · isplitl [H6]; · iexact H6
    isplitl [H7]; · iexact H7
    iexact H8

/-- What the launch's element deals device `c`. -/
def G (c : Dev nD) : sProp 𝕄 :=
  iprop((bigSep Finset.univ fun k : Fin 8 => roundState ER (rd m) (kcell (c, k)) 0)
    ∗ (bigSep Finset.univ fun k : Fin 8 => iprop(atPos ER (kcell (c, k)) 0 ∅ 0 ∗ reached ER (kcell (c, k)) 0)) ∗ payToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 8 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => payToks c := by
    unfold allToks; rw [bigSep_map, bigSep_univ_prod]
    exact bigSep_mono fun c _ => payToks_of c
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The semaphores -/

/-- The three staging semaphores at zero. -/
def stageSems (c : Dev nD) : sProp 𝕄 := iprop(semVal (stageCell c 0) 0 ∗ semVal (stageCell c 1) 0 ∗ semVal (stageCell c 2) 0)

theorem ownSems0_eq (c : Dev nD) : (Pipeline.ownSems0 (Ix := Unit) (Name := ℕ) (U := UU) (Lvl := ℕ) (Val := Elt F) (τ := τ) osem c : sProp 𝕄)
    = iprop(semVal (stageCell c 0) 0 ∗ semVal (stageCell c 1) 0 ∗ semVal (stageCell c 2) 0
      ∗ semVal (sendCell c 0) 0 ∗ semVal (sendCell c 1) 0 ∗ semVal (sendCell c 2) 0
      ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7, 8, 9] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 8 => semVal (kcell (c, k)) 0) ∗ stageSems c : sProp 𝕄) := by
  rw [ownSems0_eq, unscopedSems0_eq, bigSep_eight]; unfold stageSems
  iintro ⟨⟨A0, A1, A2, B0, B1, B2, C⟩, HB⟩
  isplitl [HB B0 B1 B2 C]
  · isplitl [HB]; · iexact HB
    isplitl [B0]; · iexact B0
    isplitl [B1]; · iexact B1
    isplitl [B2]; · iexact B2
    iexact C
  · isplitl [A0]; · iexact A0
    isplitl [A1] <;> iassumption

/-- At exit: the semaphores the body left at zero are all of them. -/
theorem sems_exit (c : Dev nD) : iprop(stageSems c ∗ (semVal (sendCell c 0) 0 ∗ semVal (sendCell c 1) 0 ∗ semVal (sendCell c 2) 0)
      ∗ semVal (recvCell c c) 0 ∗ semVal (recvCell c (kph c 1)) 0 ∗ semVal (recvCell c (kph c 2)) 0 ∗ semVal (recvCell c (kph c 3)) 0)
    ⊢ (Pipeline.ownSems0 (Ix := Unit) (Name := ℕ) (U := UU) (Lvl := ℕ) (Val := Elt F) (τ := τ) osem c : sProp 𝕄) := by
  rw [← bigSep_kph c (fun s => (semVal (recvCell c s) 0 : sProp 𝕄)), bigSep_zeroth, ownSems0_eq]; unfold stageSems
  iintro ⟨⟨A0, A1, A2⟩, ⟨B0, B1, B2⟩, C⟩
  isplitl [A0]; · iexact A0
  isplitl [A1]; · iexact A1
  isplitl [A2]; · iexact A2
  isplitl [B0]; · iexact B0
  isplitl [B1]; · iexact B1
  isplitl [B2]; · iexact B2
  iexact C

/-! ## The invariants allocated -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ (payToks c ∗ stageSems c)) := by
  unfold G
  iintro ⟨Hos, Hus, Hst, Hat, Htok⟩
  ihave Hv := (sems0 (F := F) c) $$ [Hos Hus]
  · isplitl [Hos] <;> iassumption
  icases Hv with ⟨Hv, Hs⟩
  imod (show iprop((bigSep Finset.univ fun k : Fin 8 => semVal (kcell (c, k)) 0) ∗ bigSep Finset.univ fun k : Fin 8 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What is a device's alone: positions, tokens, staging semaphores. -/
def linear (c : Dev nD) : sProp 𝕄 := iprop((bigSep Finset.univ fun k : Fin 8 => atPos ER (kcell (c, k)) 0 ∅ 0) ∗ (payToks c ∗ stageSems c))
/-- What a device starts from: the records under some names, and what is its alone. -/
def G' (c : Dev nD) : sProp 𝕄 := iprop(∃ K, records m K ∗ linear c)

theorem deal_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ (payToks c ∗ stageSems c)) : sProp 𝕄)
      ⊢ bigSep Finset.univ (G' m) := by
  rw [bigSep_sep', bigSep_sep', ← bigSep_univ_prod (fun ck : Dev nD × Fin 8 => iprop(∃ κ : ℕ, cellInv ER (rd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (rd m) κ (kcell ck) : sProp 𝕄))) $$ HI
  icases HK with ⟨%K, #HI⟩
  have key : ∀ c, iprop(records m K ∗ linear c) ⊢ G' m c := fun c => by
    unfold G'; iintro ⟨#HR, Hl⟩; iexists K; isplitr; · iexact HR
    iexact Hl
  iapply (deal_records (R := records m K) key)
  isplitr
  · unfold records; isplitl; · iexact HI
    iexact HR
  · unfold linear
    iapply (Entails.of_eq (bigSep_sep' Finset.univ (fun c : Dev nD => bigSep Finset.univ fun k : Fin 8 => (atPos ER (kcell (c, k)) 0 ∅ 0 : sProp 𝕄)) (fun c => iprop(payToks c ∗ stageSems c))).symm)
    isplitl [Hat]; · iexact Hat
    iexact Htok

/-- The global step: every device's semaphores and dealt resources to what each starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem bar_iff {a b : Dev nD} : Iff (barCell a = barCell b) (a = b) := ⟨fun h => congrArg (fun g : GSem nD τ sig => g.1.1) h, fun h => h ▸ rfl⟩
theorem recv_iff {a b s s' : Dev nD} : Iff (recvCell a s = recvCell b s') (a = b ∧ s = s') := by
  constructor
  · intro h
    refine ⟨congrArg (fun g : GSem nD τ sig => g.1.1) h, ?_⟩
    have h2 : SemLoc.dma (rcSem (so s) (so_inb s)) = SemLoc.dma (rcSem (so s') (so_inb s')) := congrArg Prod.snd h
    rw [← sOf_rc s, ← sOf_rc s', SemLoc.dma.inj h2]
  · rintro ⟨rfl, rfl⟩; rfl
theorem recv_ne_bar (a b s : Dev nD) : recvCell a s ≠ barCell b := fun h => by
  have h2 : SemLoc.dma (rcSem (so s) (so_inb s)) = SemLoc.reg barS := congrArg Prod.snd h
  cases h2

theorem owB_bar (d c : Dev nD) (k : ℕ) : owB d k (barCell c) () = if c = sh k d then 1 else 0 := by
  rw [tallyAt_apply]; simp only [bar_iff, and_true]
theorem owB_recv (d c s : Dev nD) (k : ℕ) : owB d k (recvCell c s) () = 0 := by
  rw [tallyAt_apply, if_neg fun h => recv_ne_bar _ _ _ h.1]
theorem owR_bar (d c : Dev nD) (k : ℕ) : owR d k (barCell c) () = 0 := by
  rw [tallyAt_apply, if_neg fun h => recv_ne_bar _ _ _ h.1.symm]
theorem owR_recv (d c s : Dev nD) (k : ℕ) : owR d k (recvCell c s) () = N * if c = sh k d ∧ s = d then 1 else 0 := by
  rw [tallyAt_apply]; simp only [recv_iff, and_true, mul_ite, mul_one, mul_zero]

theorem O6_apply (d : Dev nD) (g : GSem nD τ sig) : O6 d g () = owR d 2 g () + owR d 3 g () + owR d 1 g () + owB d 3 g () + owB d 2 g () + owB d 1 g () := by
  unfold O6 O5 O4 O3 O2 O1
  simp only [Pi.add_apply, Finsupp.add_apply, Pi.zero_apply, Finsupp.zero_apply, Nat.zero_add]

theorem owed_bar (d c : Dev nD) : O6 d (barCell c) () = if c = d then 0 else 1 := by
  rw [O6_apply]; simp only [owR_bar, owB_bar]; revert d c; decide
theorem owed_recv (d c s : Dev nD) : O6 d (recvCell c s) () = N * if s = d ∧ c ≠ d then 1 else 0 := by
  rw [O6_apply]; simp only [owR_recv, owB_recv, add_zero, ← mul_add]
  congr 1; revert d c s; decide

theorem launch_bar (c : Dev nD) : tallyOn (barCell c) (launchCredit (Pipeline.owing O6) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c s : Dev nD) (h : s ≠ c) :
    tallyOn (recvCell c s) (launchCredit (Pipeline.owing O6) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, ← Finset.mul_sum,
    show (∑ d : Dev nD, if s = d ∧ c ≠ d then 1 else 0) = 1 by revert c s; decide, mul_one]

/-- The semaphores a device's credit is for. -/
def credAt (c : Dev nD) : List (SemLoc sig) :=
  [.reg barS, .dma (rcSem (so (kph c 1)) (so_inb _)), .dma (rcSem (so (kph c 2)) (so_inb _)), .dma (rcSem (so (kph c 3)) (so_inb _))]

theorem creds (c : Dev nD) : (Pipeline.launchCred O6 c : sProp 𝕄) ⊢ iprop(cred (tallyAt (barCell c) () 3) ∗ cred (tallyAt (recvCell c (kph c 1)) () N)
    ∗ cred (tallyAt (recvCell c (kph c 2)) () N) ∗ cred (tallyAt (recvCell c (kph c 3)) () N)) := by
  unfold Pipeline.launchCred
  refine (bigSep_subset (Finset.subset_univ (credAt c).toFinset)).trans ?_
  rw [bigSep_eq_bigSepL_of_eq (credAt c) rfl (by revert c; decide), ← launch_bar, ← launch_recv c _ (kph_ne c 1), ← launch_recv c _ (kph_ne c 2), ← launch_recv c _ (kph_ne c 3)]
  exact Entails.refl _

end Cert.GemmProof

end
-- ==== Proof.Run.lean ====
/-
# The run of the machine

The body of every device, joined with the pipeline around it and with the launch: every weakly fair execution of the four
devices ends, with the output block of each device at `outBlock`, the arguments as they were and every semaphore at zero.
-/
module

public import proofs.«01_k».proof.Proof.Launch
public import proofs.«01_k».proof.Proof.Gen.KernelIdeal.Frame
public import Idealize.ShloMosaic.Lib.Quiescent
public import Idealize.ShloMosaic.Lib.Pipeline.CollectiveSegs

@[expose] public section

noncomputable section

namespace Cert.GemmProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The two scales device `c`'s body reads. -/
def sx (c : Dev nD) : S1.Idx → Elt F .f32 := iblk m c 0 t0_0
def sw (c : Dev nD) : S1.Idx → Elt F .f32 := iblk m c 1 t0_0

/-- What the region starts from on device `c`: what the launch dealt it, its credit, the levels, its arguments. -/
def start (c : Dev nD) : sProp 𝕄 :=
  iprop(G' m c ∗ (cred (tallyAt (barCell c) () 3) ∗ cred (tallyAt (recvCell c (kph c 1)) () N)
    ∗ cred (tallyAt (recvCell c (kph c 2)) () N) ∗ cred (tallyAt (recvCell c (kph c 3)) () N)) ∗ levAts L lv ∗ args m c)
/-- The four scratch buffers. -/
def scratch (c : Dev nD) : sProp 𝕄 := iprop(some' c cc0_scratch0 ∗ some' c cc0_scratch1 ∗ some' c cc0_scratch2 ∗ some' c cc0_scratch3)
def Φ₀ (c : Dev nD) : sProp 𝕄 := iprop(start m c ∗ scratch c)
def Φ₁ (c : Dev nD) : sProp 𝕄 :=
  iprop((unscopedSems0 c ∗ args m c) ∗ Pipeline.ownSems0 (Ix := Unit) (Name := ℕ) (U := UU) (Lvl := ℕ) (Val := Elt F) (τ := τ) osem c ∗ scratch c)

def dats (_ : Fin 1) (c : Dev nD) : Dat τ (Elt F) Unit ℕ UU ℕ cfg0 c where
  A w := m ((cfg0.win w).arr.view.loc (c : Thread nD τ))
  after w _ := match w with
    | ⟨0, _⟩ => sx m c
    | ⟨1, _⟩ => sw m c
    | ⟨2, _⟩ => outBlock m c (sx m c) (sw m c)
  Φ t := match t with
    | ⟨0, _⟩ => Φ₀ m c
    | ⟨_ + 1, _⟩ => Φ₁ m c
  q _ := fullShare
  owed t := match t with
    | ⟨0, _⟩ => O6 c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body between the region's two states -/

/-- The pieces the body starts from, cut from what the region holds. -/
theorem begin_of (c : Dev nD) (f : Buf (Elt F) ((c : Thread nD τ).loc cc0_stg2_0)) :
    iprop(linear c ∗ (cred (tallyAt (barCell c) () 3) ∗ cred (tallyAt (recvCell c (kph c 1)) () N)
        ∗ cred (tallyAt (recvCell c (kph c 2)) () N) ∗ cred (tallyAt (recvCell c (kph c 3)) () N)) ∗ levAts L lv ∗ (hbm m c 0 ∗ hbm m c 1 ∗ hbm m c 2)
        ∗ scratch c ∗ owing c (O6 c) ∗ scal c (sx m c) (sw m c) ∗ (((c : Thread nD τ).loc cc0_stg2_0) ↦{fullShare} f)
        ∗ (∃ κ : ℕ, cellInv ER (rd m) κ (recvCell c (kph c 1))) ∗ (∃ κ : ℕ, cellInv ER (rd m) κ (recvCell c (kph c 2))) ∗ (∃ κ : ℕ, cellInv ER (rd m) κ (recvCell c (kph c 3))))
      ⊢ iprop(begin m c (sx m c) (sw m c) (fun t => (oM.access (oR t)).read (Elt F) f) ∗ room c (xgSlot (go c) (go_inb _))) := by
  unfold linear payToks stageSems scratch begin pend idle
  iintro ⟨⟨Hat, ⟨Tb, Tr, Ts⟩, Z0, Z1, Z2⟩, ⟨Cb, C1, C2, C3⟩, #Hlev, ⟨M0, M1, M2⟩, ⟨S0, S1, S2, S3⟩, HO, Hsc, Hout, ⟨%κ1, #I1⟩, ⟨%κ2, #I2⟩, ⟨%κ3, #I3⟩⟩
  ihave Hat := (cells_listed c (fun g => (atPos ER g 0 ∅ 0 : sProp 𝕄))) $$ Hat
  icases Hat with ⟨Pb, Ps, Pc, P1, P2, P3⟩
  ihave S0 := (stage_cut (F := F) c) $$ S0
  icases S0 with ⟨R0, R1, R2⟩
  ihave S1 := (rows_cut (F := F) c) $$ S1
  ihave S2 := (gather_cut (F := F) c) $$ S2
  icases S2 with ⟨Gc, Gs⟩
  isplitr [Gc]
  · isplitl [Pb Cb]
    · isplitl [Pb] <;> iassumption
    isplitl [Tb]; · iexact Tb
    isplitl [Tr]; · iexact Tr
    isplitl [Ts]; · iexact Ts
    isplitl [Ps]; · iexact Ps
    isplitl [P1 P2 P3 C1 C2 C3]
    · isplitl [P1 C1]
      · iexists κ1
        isplitr; · iexact I1
        isplitl [C1] <;> iassumption
      isplitl [P2 C2]
      · iexists κ2
        isplitr; · iexact I2
        isplitl [C2] <;> iassumption
      · iexists κ3
        isplitr; · iexact I3
        isplitl [C3] <;> iassumption
    isplitl [Pc]; · iexact Pc
    isplitr; · iexact Hlev
    isplitl [HO]; · iexact HO
    isplitl [R0 R1 R2 Z0 Z1 Z2 M0 M1 M2]
    · isplitl [R0 Z0 M0]
      · isplitl [R0]; · iexact R0
        isplitl [Z0]; · iexact Z0
        iexact M0
      isplitl [R1 Z1 M1]
      · isplitl [R1]; · iexact R1
        isplitl [Z1]; · iexact Z1
        iexact M1
      · isplitl [R2]; · iexact R2
        isplitl [Z2]; · iexact Z2
        iexact M2
    isplitl [S1]; · iexact S1
    isplitl [Gs]; · iexact Gs
    isplitl [S3]; · unfold wqAny; unfold some'; iexact S3
    isplitl [Hout]
    · unfold outIs
      iexists f
      isplitr; · ipureintro; exact fun _ _ => rfl
      iexact Hout
    · iexact Hsc
  · iexact Gc

theorem gather_end (c : Dev nD) : iprop(room c (xgSlot (go c) (go_inb _)) ∗ holds c (xgSlot (go (kph c 1)) (go_inb _)) (nx (xblk m (kph c 1) c))
    ∗ holds c (xgSlot (go (kph c 2)) (go_inb _)) (nx (xblk m (kph c 2) c)) ∗ holds c (xgSlot (go (kph c 3)) (go_inb _)) (nx (xblk m (kph c 3) c))) ⊢ some' (F := F) c cc0_scratch2 := by
  iintro ⟨H0, H1, H2, H3⟩
  ihave H1 := (holds_room c _ _) $$ H1
  ihave H2 := (holds_room c _ _) $$ H2
  ihave H3 := (holds_room c _ _) $$ H3
  iapply (gather_paste (F := F) c)
  isplitl [H0]; · iexact H0
  isplitl [H1]; · iexact H1
  isplitl [H2] <;> iassumption

/-- The pieces the body ends with, pasted to what the region gives up. -/
theorem ended_to (c : Dev nD) :
    iprop(ended m c (sx m c) (sw m c) ∗ room c (xgSlot (go c) (go_inb _)) ∗ argsKept m c)
      ⊢ iprop(Φ₁ m c ∗ owing c 0 ∗ scal c (sx m c) (sw m c) ∗ outIs c (fin m c (sx m c) (sw m c))) := by
  unfold ended got idle Φ₁ scratch
  iintro ⟨⟨Zb, Zs, Zc, ⟨⟨Z1, G1⟩, ⟨Z2, G2⟩, ⟨Z3, G3⟩⟩, HO, ⟨⟨R0, W0, M0⟩, ⟨R1, W1, M1⟩, ⟨R2, W2, M2⟩⟩, S1, S3, Hout, Hsc⟩, Gc, Hk⟩
  isplitr [HO Hsc Hout]
  · isplitl [Zb Hk M0 M1 M2]
    · isplitl [Zb]; · rw [unscopedSems0_eq]; iexact Zb
      iapply (args_whole m c)
      isplitl [Hk]; · iexact Hk
      isplitl [M0]; · iexact M0
      isplitl [M1]; · iexact M1
      iexact M2
    isplitl [W0 W1 W2 Zs Zc Z1 Z2 Z3]
    · iapply (sems_exit (F := F) c)
      isplitl [W0 W1 W2]
      · unfold stageSems
        isplitl [W0]; · iexact W0
        isplitl [W1]; · iexact W1
        iexact W2
      isplitl [Zs]; · iexact Zs
      isplitl [Zc]; · iexact Zc
      isplitl [Z1]; · iexact Z1
      isplitl [Z2]; · iexact Z2
      iexact Z3
    isplitl [R0 R1 R2]
    · iapply (stage_paste (F := F) c)
      isplitl [R0]; · iexact R0
      isplitl [R1]; · iexact R1
      iexact R2
    isplitl [S1]
    · iapply (rows_paste (F := F) c); iexact S1
    isplitl [Gc G1 G2 G3]
    · iapply (gather_end m c)
      isplitl [Gc]; · iexact Gc
      isplitl [G1]; · iexact G1
      isplitl [G2]; · iexact G2
      iexact G3
    · unfold wqAny some'; iexact S3
  isplitl [HO]; · iexact HO
  isplitl [Hsc]; · iexact Hsc
  iexact Hout

/-- The invariants of the three receive cells a device waits on. -/
theorem recv_invs (K : Dev nD × Fin 8 → ℕ) (c s : Dev nD) : records m K ⊢ iprop(∃ κ : ℕ, cellInv ER (rd m) κ (recvCell c s)) := by
  iintro H
  iexists (K (c, kRecv s))
  iapply (inv_recv m K c s) $$ H

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The device's program from the region's state before it to the state after it. -/
theorem wp_region (c : Dev nD) (f : Buf (Elt F) ((c : Thread nD τ).loc cc0_stg2_0)) (Q : PUnit → sProp 𝕄) :
    iprop((Φ₀ m c ∗ owing c (O6 c) ∗ scal c (sx m c) (sw m c) ∗ (((c : Thread nD τ).loc cc0_stg2_0) ↦{fullShare} f))
        ∗ (iprop(Φ₁ m c ∗ owing c 0 ∗ scal c (sx m c) (sw m c) ∗ outIs c (fin m c (sx m c) (sw m c))) -∗ Q ⟨⟩))
      ⊢ WP c (deviceSteps (canon c)) Q := by
  unfold Φ₀ start G'
  iintro ⟨⟨⟨⟨⟨%K, #HR, Hl⟩, Hc, #Hlev, Ha⟩, Hs⟩, HO, Hsc, Hout⟩, HK⟩
  ihave Ha := (args_deal m c) $$ Ha
  icases Ha with ⟨Hk, Hm⟩
  ihave Hb := (begin_of m c f) $$ [Hl Hc Hm Hs HO Hsc Hout]
  · isplitl [Hl]; · iexact Hl
    isplitl [Hc]; · iexact Hc
    isplitr; · iexact Hlev
    isplitl [Hm]; · iexact Hm
    isplitl [Hs]; · iexact Hs
    isplitl [HO]; · iexact HO
    isplitl [Hsc]; · iexact Hsc
    isplitl [Hout]; · iexact Hout
    isplitr; · iapply (recv_invs m K c (kph c 1)); iexact HR
    isplitr; · iapply (recv_invs m K c (kph c 2)); iexact HR
    iapply (recv_invs m K c (kph c 3)); iexact HR
  icases Hb with ⟨Hb, Gc⟩
  iapply (wp_device m K c (sx m c) (sw m c) _ Q)
  isplitr; · iexact HR
  isplitl [Hb]; · iexact Hb
  iintro He
  iapply HK
  iapply (ended_to m c)
  isplitl [He]; · iexact He
  isplitl [Gc] <;> iassumption

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ m c ∗ (dats m 0 c).owesAt () t0_0.succ ∗ stg c cc0_stg0_0 (sx m c) ∗ stg c cc0_stg1_0 (sw m c)
    ∗ stg c cc0_stg2_0 (outBlock m c (sx m c) (sw m c)))

theorem before_sx (c : Dev nD) (d) : (dats m 0 c).before (0 : Fin 3) t0_0 d = sx m c := by
  unfold Dat.before; rw [if_pos (fetch0_0 t0_0)]; rfl
theorem before_sw (c : Dev nD) (d) : (dats m 0 c).before (1 : Fin 3) t0_0 d = sw m c := by
  unfold Dat.before; rw [if_pos (fetch0_1 t0_0)]; rfl

theorem wp_body (c : Dev nD) : bodyPre m c ⊢ WP c (bodyAt0 (F := F) t0_0) (fun _ => bodyPost m c) := by
  rw [body_steps]
  simp only [wp_deviceId, places_eq]
  unfold bodyPre Dat.owesAt Pipeline.owesWithin
  iintro ⟨HΦ, ⟨%W, %hW, HO⟩, ⟨%d0, %g0, %hg0, H0⟩, ⟨%d1, %g1, %hg1, H1⟩, ⟨%d2, %g2, %hg2, H2⟩⟩
  obtain rfl : g0 = sx m c := hg0.trans (before_sx m c d0)
  obtain rfl : g1 = sw m c := hg1.trans (before_sw m c d1)
  iapply (wp_region m c g2 (fun _ => bodyPost m c))
  isplitl
  · isplitl [HΦ]; · iexact HΦ
    isplitl [HO]; · unfold owing; iexists W; iexact HO
    isplitl [H0 H1]
    · unfold scal
      isplitl [H0] <;> iassumption
    iexact H2
  · unfold bodyPost owing scal outIs Dat.owesAt Pipeline.owesWithin
    iintro ⟨HΦ, ⟨%W', HO⟩, ⟨H0, H1⟩, ⟨%A, %hA, H2⟩⟩
    isplitl [HΦ]; · iexact HΦ
    isplitl [HO]
    · iexists W'
      isplitr; · ipureintro; exact fun _ _ => Or.inl trivial
      iexact HO
    isplitl [H0]
    · iexists (sx m c); isplitr; · (ipureintro; rfl)
      iexact H0
    isplitl [H1]
    · iexists (sw m c); isplitr; · (ipureintro; rfl)
      iexact H1
    · iexists A; isplitr; · (ipureintro; exact outBlock_of m c _ _ A hA)
      iexact H2

set_option maxRecDepth 65536 in
/-- The pipeline's obligation for the body on device `c`. -/
theorem body_obligation (c : Dev nD) : BodyObligation (dats (F := F) m 0 c) (defs₀ (F := F)) 𝒱₀ () Set.univ := fun t => by
  rw [fin_N0 t, bigSep_W0, bigSep_W0]
  simp only [owns_whole_eq]
  exact wp_body m c

/-! ## The launch theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O6 c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄) = args m c from
    (Pipeline.unscopedRestP_none _ c _).trans (unscopedRest0_eq c _)]
  iintro ⟨Ha, Hlev, Hcr, -, HG⟩
  ihave Hc := (creds (F := F) c) $$ Hcr
  imodintro
  unfold start
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch some'
  iintro ⟨Hs, -, Hr⟩
  isplitl [Hs]; · iexact Hs
  iexact Hr

theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = Φ₁ m c from rfl, scopedRest0_eq]
  exact Entails.refl _

/-- The pipeline's own semaphores come before the receive semaphores. -/
theorem window_sem : ∀ (w : Fin cfg0.W) (s : Fin (cfg0.win w).nbuf), ((cfg0.win w).sem s).val < 9 := by decide +kernel

/-- The pipeline's own cells lie at level 0. -/
theorem window_level (c : Dev nD) (w : Fin cfg0.W) (s : Fin (cfg0.win w).nbuf) :
    lv ((c : Thread nD τ), SemLoc.dma ((cfg0.win w).sem s)) () ≤ 0 := by
  show (if 9 ≤ ((cfg0.win w).sem s).val then 2 else 0) ≤ 0
  rw [if_neg (by have := window_sem w s; omega)]

theorem waits (c : Dev nD) : (levAts L lv : sProp 𝕄) ⊢ Pipeline.cellsWaits cfgs (dats m) () 0 c :=
  Pipeline.cellsWaits_intro cfgs (dats m) () 0 c fun w s t =>
    mayWait_of c _ 0 (window_level c w s) (by
      rcases t with ⟨_ | _, ht⟩
      · exact above_O6 c
      · exact above_zero 0)

/-- The two arguments the body reads itself, read off the memory at the end. -/
theorem args_read (c : Dev nD) (s' : Phys nD τ sig (Elt F)) : iprop(args m c ∗ SI s' : sProp 𝕄)
    ⊢ iprop(⌜s'.mem.mem ((c : Thread nD τ).loc main_arg0) = m ((c : Thread nD τ).loc main_arg0)
        ∧ s'.mem.mem ((c : Thread nD τ).loc main_arg1) = m ((c : Thread nD τ).loc main_arg1)⌝ ∗ SI s') := by
  unfold args
  iintro ⟨⟨H0, H1⟩, HSI⟩
  icombine HSI H0 gives %h0
  icombine HSI H1 gives %h1
  isplitr
  · ipureintro; exact ⟨Buf.eq_of_forall_mem_univ h0, Buf.eq_of_forall_mem_univ h1⟩
  · iexact HSI

/-! ## The run -/

/-- What is read at the end on device `c`. -/
def QC (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
  ∧ (∀ sm : SemLoc sig, sm.isScoped .tc = false → s.sem ((c.tc : Thread nD τ), sm) = 0)

def finalA (c : Dev nD) (w : Fin cfg0.W) : Buf (Elt F) ((cfg0.win w).arr.view.loc (c : Thread nD τ)) := (dats m 0 c).arrAt w cfg0.N

/-- The kernel's own share of the ghost state, as the launch hands it over. -/
theorem fund_pair : (BI.own (embR ((initOf allCells allToks, 1) : UB × Counters)) : sProp 𝕄) ⊢ |==> bigSep Finset.univ (G m) := fund_all m

set_option maxRecDepth 8000 in
/-- From any memory with zero counters, every weakly fair execution ends, with each window's array as the pipeline's data say,
    the other two arguments as they were, and every semaphore at zero. -/
theorem run_main : θ_run defs (onTc (τ := τ) (main (F := F))) ⟨m, fun _ => 0, ρ⟩
    (fun r => (∀ c : Dev nD, (∀ w : Fin cfg0.W, r.2.mem ((cfg0.win w).arr.view.loc (c : Thread nD τ)) = finalA m c w) ∧ QC m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O6) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := QC m)
    (hY := fun c s' => by
      iintro ⟨⟨Hu, Ha⟩, -, HSI⟩
      ihave H := (args_read m c s') $$ [Ha HSI]
      · isplitl [Ha] <;> iassumption
      icases H with ⟨%ha, HSI⟩
      imod (Pipeline.unscopedSems0_read (X := unscopedSems0 c) (c := c) fupd_intro s') $$ [Hu HSI] with ⟨%hs, HSI⟩
      · isplitl [Hu] <;> iassumption
      imodintro
      isplitr; · ipureintro; exact ⟨ha, hs⟩
      iexact HSI)
    (hQ := fun _ h hs => ⟨fun c => ⟨fun w => (h c).1 w, (h c).2.2⟩, sem_eq_zero hs fun c => (h c).2.2.2⟩)

end Cert.GemmProof

end
-- ==== Proof.Value.lean ====
/-
# What the machine computes, over the extended reals

The block each device ends with, read at an index: a sum of four products of 1024 terms, scaled and passed through
`y · (1 / (1 + exp (-y)))`.
-/
module

public import proofs.«01_k».proof.Proof.Run
public import Idealize.ShloMosaic.Lib.Pointwise
public import Idealize.ShloMosaic.Lib.Pipeline.ValueKit.Geometry

@[expose] public section

noncomputable section

namespace Cert.GemmProof

open Cert.KernelIdeal Cert.KernelIdeal.Gen
open Idealize.ShloMosaic Idealize.ShloMosaic.TcCoe
open Idealize.SL.Sem
open Idealize.ShloMosaic.Pipeline (Dat Cfg Window)

section Arrays

variable {F : FTy → Type} [FloatOps F] (m : (ℓ : Loc nD τ sig) → Buf (Elt F) ℓ)

/-- The two scales' arrays end as they were. -/
theorem final_sx (c : Dev nD) : finalA m c 0 = m ((c : Thread nD τ).loc main_arg2) := (dats m 0 c).arrAt_in 0 rfl _
theorem final_sw (c : Dev nD) : finalA m c 1 = m ((c : Thread nD τ).loc main_arg3) := (dats m 0 c).arrAt_in 1 rfl _

/-- The output's array ends as the block the body leaves. -/
theorem final_out (c : Dev nD) : finalA m c 2 = outBlock m c (sx m c) (sw m c) :=
  (dats m 0 c).arrAt_eq_of_after_last 2 t0_0 (by decide +kernel) _ fun j => by
    blk_simp
    rfl

/-- The scale the body reads is the argument's one element. -/
theorem oneOf_sx (c : Dev nD) (f : S1.Idx → Elt F .f32) (h : m ((c : Thread nD τ).loc main_arg2) = f) : oneOf (sx m c) = f (ix1 0) := by
  subst h
  exact congrArg (m ((c : Thread nD τ).loc main_arg2)) (funext fun a => by fin_cases a; exact Subsingleton.elim (α := Fin 1) _ _)
theorem oneOf_sw (c : Dev nD) (f : S1.Idx → Elt F .f32) (h : m ((c : Thread nD τ).loc main_arg3) = f) : oneOf (sw m c) = f (ix1 0) := by
  subst h
  exact congrArg (m ((c : Thread nD τ).loc main_arg3)) (funext fun a => by fin_cases a; exact Subsingleton.elim (α := Fin 1) _ _)

/-- A block of rows of `x`, element by element. -/
theorem xblk_apply (c r : Dev nD) (i k : Fin 1024) :
    xblk m c r (ix2 i k) = m ((c : Thread nD τ).loc main_arg0) (ix2 (⟨1024 * r.val + i.val, by have : r.val < 4 := r.isLt; omega⟩ : Fin 4096) k) := by
  refine congrArg (m ((c : Thread nD τ).loc main_arg0)) ?_
  funext a
  fin_cases a <;> apply Fin.ext
  · show 1024 * r.val + 1 * i.val = _; simp [ix2]
  · show 0 + 1 * k.val = _; simp [ix2]

/-- A tile of the weights, element by element. -/
theorem wblk_apply (c r : Dev nD) (t : Fin 8) (k j : Fin 1024) :
    wblk m c r t.val (ix2 k j) = m ((c : Thread nD τ).loc main_arg1)
      (ix2 (⟨1024 * r.val + k.val, by have : r.val < 4 := r.isLt; omega⟩ : Fin 4096) (⟨1024 * t.val + j.val, by omega⟩ : Fin 8192)) := by
  refine congrArg (m ((c : Thread nD τ).loc main_arg1)) ?_
  have ht : min t.val 7 = t.val := by omega
  funext a
  fin_cases a <;> apply Fin.ext
  · show 1024 * r.val + 1 * k.val = _; simp [ix2]
  · show 1024 * min t.val 7 + 1 * j.val = _; rw [ht]; simp [ix2]

/-- The output block at a row and a column: the tile of that column's block, at the column's place in it. -/
theorem outBlock_apply (c : Dev nD) (f₀ f₁ : S1.Idx → Elt F .f32) (i : Fin 1024) (j : Fin 8192) :
    outBlock m c f₀ f₁ (ix2 i j) = fin m c f₀ f₁ (j.val / 1024) (ix2 i (⟨j.val % 1024, Nat.mod_lt _ (by decide)⟩ : Fin 1024)) := by
  unfold outBlock
  refine congrArg (fin m c f₀ f₁ (j.val / 1024)) (funext fun a => Fin.ext ?_)
  fin_cases a <;> rfl

end Arrays

/-! ## At the extended reals -/

variable (m : (ℓ : Loc nD τ sig) → Buf (Elt Ideal) ℓ)

theorem dotv_apply (a b : Vec Ideal S1024x1024 .f32) (i j : Fin 1024) :
    dotv (nx a) (nw b) (ix2 i j) = ∑ k : Fin 1024, a (ix2 i k) * b (ix2 k j) := by
  unfold dotv nx nw
  pointwise

/-- `y · (1 / (1 + exp (-y)))`, as the kernel spells it, is `y / (1 + exp (-y))`. -/
theorem silu_eq (y : EReal) : y * Ideal.div 1 (1 + Ideal.exp (0 - y)) = Ideal.div y (1 + Ideal.exp (-y)) := by
  have h0 : (0 : EReal) ≤ Ideal.exp (-y) := by
    induction (-y) with
    | bot => exact le_refl _
    | top => exact le_top
    | coe r => exact EReal.coe_nonneg.mpr (Real.exp_pos r).le
  have h1 : (1 : EReal) + Ideal.exp (-y) ≠ 0 := ne_of_gt (lt_of_lt_of_le zero_lt_one (le_add_of_nonneg_right h0))
  rw [zero_sub, Ideal.div, Ideal.div, if_neg h1, if_neg h1, one_mul]

theorem epi_apply (s₀ s₁ : EReal) (acc : Vec Ideal S1024x1024 .f32) (i : S1024x1024.Idx) :
    epi (F := Ideal) s₀ s₁ acc i = Ideal.div (acc i * (s₀ * s₁)) (1 + Ideal.exp (-(acc i * (s₀ * s₁)))) := by
  rw [← silu_eq]
  unfold epi
  pointwise

/-- The phases' row blocks are the four, each once. -/
theorem sum_phases (c : Dev nD) (f : Dev nD → EReal) : f c + f (kph c 1) + f (kph c 2) + f (kph c 3) = ∑ r : Dev nD, f r := by
  have : ∀ c : Dev nD, ({c, kph c 1, kph c 2, kph c 3} : Finset (Dev nD)) = Finset.univ ∧ c ≠ kph c 1 ∧ c ≠ kph c 2 ∧ c ≠ kph c 3
      ∧ kph c 1 ≠ kph c 2 ∧ kph c 1 ≠ kph c 3 ∧ kph c 2 ≠ kph c 3 := by decide
  obtain ⟨h, h1, h2, h3, h4, h5, h6⟩ := this c
  rw [← h, Finset.sum_insert (by simp [h1, h2, h3]), Finset.sum_insert (by simp [h4, h5]), Finset.sum_insert (by simp [h6]), Finset.sum_singleton]
  simp only [add_assoc]

/-- The accumulator at the end of the four phases. -/
theorem part_apply (c : Dev nD) (t : ℕ) (i j : Fin 1024) :
    part m c 3 t (ix2 i j) = ∑ r : Dev nD, ∑ k : Fin 1024, xblk m r c (ix2 i k) * wblk m c r t (ix2 k j) := by
  have key : ∀ r : Dev nD, dotv (nx (xblk m r c)) (nw (wblk m c r t)) (ix2 i j) = ∑ k : Fin 1024, xblk m r c (ix2 i k) * wblk m c r t (ix2 k j) :=
    fun r => dotv_apply _ _ i j
  refine Eq.trans ?_ (sum_phases c fun r => ∑ k : Fin 1024, xblk m r c (ix2 i k) * wblk m c r t (ix2 k j))
  simp only [← key]
  rfl

end Cert.GemmProof

end
-- ==== Proof.Reference.lean ====
/-
# What the reference computes, and that the machine computes its blocks

The reference at an index is the whole product's sum of 4096 terms, scaled, through `y / (1 + exp (-y))`; cut into the four
row blocks of the weights it is the sum of the four devices' parts.
-/
module

public import proofs.«01_k».proof.Proof.Value
public import proofs.«01_k».proof.Proof.Gen.ReferenceIdeal.Run
public import Idealize.ShloMosaic.Lib.Layout
public import Idealize.ShloMosaic.Lib.Pipeline.ValueKit.Acc

@[expose] public section

noncomputable section

namespace Cert.GemmProof

open Idealize.ShloMosaic Idealize.ShloMosaic.TcCoe
open Idealize.SL.Sem

/-! ## The reference at an index -/

/-- The array the reference ends with: its operations composed, over the whole arguments. -/
def refTerm (X : FVec Ideal Cert.ReferenceIdeal.S4096x4096 .f32) (W : FVec Ideal Cert.ReferenceIdeal.S4096x8192 .f32)
    (a b : FVec Ideal Cert.ReferenceIdeal.S1 .f32) : FVec Ideal Cert.ReferenceIdeal.S4096x8192 .f32 :=
  have y : FVec Ideal Cert.ReferenceIdeal.S4096x8192 .f32 :=
    mulf (Host.dotGeneral Cert.ReferenceIdeal.dot_S4096x4096_S4096x8192_S4096x8192_1_0_0_1_n_n none X W)
      (broadcastInDim Cert.ReferenceIdeal.S4096x8192 ![0, 1] Cert.ReferenceIdeal.Facts₀.bcast_S1x1_S4096x8192_0_1
        (broadcastInDim Cert.ReferenceIdeal.S1x1 ![1] Cert.ReferenceIdeal.Facts₀.bcast_S1_S1x1_1 (mulf a b)))
  Host.divf y (addf (broadcastInDim Cert.ReferenceIdeal.S4096x8192 ![] Cert.ReferenceIdeal.Facts₀.bcast_S_S4096x8192
    (constant Cert.ReferenceIdeal.S_ .f32 0x3F800000#32)) (Host.exp (Host.negf y)))

/-- The product at a row and a column. -/
def gemm (X : FVec Ideal Cert.ReferenceIdeal.S4096x4096 .f32) (W : FVec Ideal Cert.ReferenceIdeal.S4096x8192 .f32)
    (i : Fin 4096) (j : Fin 8192) : EReal := ∑ k : Fin 4096, X (ix2 i k) * W (ix2 k j)

/-- `y / (1 + exp (-y))`. -/
def silu (y : EReal) : EReal := Ideal.div y (1 + Ideal.exp (-y))

theorem refTerm_apply (X : FVec Ideal Cert.ReferenceIdeal.S4096x4096 .f32) (W : FVec Ideal Cert.ReferenceIdeal.S4096x8192 .f32)
    (a b : FVec Ideal Cert.ReferenceIdeal.S1 .f32) (i : Fin 4096) (j : Fin 8192) :
    refTerm X W a b (ix2 i j) = silu (gemm X W i j * (a (ix1 0) * b (ix1 0))) := by
  unfold refTerm silu gemm
  pointwise

/-- The product's sum, row block by row block of the weights. -/
theorem gemm_blocks (X : FVec Ideal Cert.ReferenceIdeal.S4096x4096 .f32) (W : FVec Ideal Cert.ReferenceIdeal.S4096x8192 .f32)
    (i : Fin 4096) (j : Fin 8192) :
    gemm X W i j = ∑ r : Fin 4, ∑ k : Fin 1024, X (ix2 i (⟨1024 * r.val + k.val, by omega⟩ : Fin 4096)) * W (ix2 (⟨1024 * r.val + k.val, by omega⟩ : Fin 4096) j) := by
  have h := Fin.sum_univ_univ_mul_add 4 1024
    (fun n => if hn : n < 4096 then X (ix2 i (⟨n, hn⟩ : Fin 4096)) * W (ix2 (⟨n, hn⟩ : Fin 4096) j) else 0)
  unfold gemm
  refine Eq.trans (Finset.sum_congr rfl fun k _ => ?_) (h.symm.trans (Finset.sum_congr rfl fun r _ => Finset.sum_congr rfl fun k _ => ?_))
  · rw [dif_pos k.isLt]
  · have e : r.val * 1024 + k.val = 1024 * r.val + k.val := by omega
    have hn : 1024 * r.val + k.val < 4096 := by omega
    simp only [e]
    exact dif_pos hn

/-! ## The machine against the reference -/

open Cert.KernelIdeal Cert.KernelIdeal.Gen in
/-- Where each device holds its block of columns of `X` and the whole of the other arguments, it ends with its block of rows
    of the reference's array. -/
theorem out_eq (m : (ℓ : Loc nD τ sig) → Buf (Elt Ideal) ℓ)
    (X : FVec Ideal Cert.ReferenceIdeal.S4096x4096 .f32) (W : FVec Ideal Cert.ReferenceIdeal.S4096x8192 .f32)
    (a b : FVec Ideal Cert.ReferenceIdeal.S1 .f32)
    (hX : ∀ c : Dev nD, m ((c : Thread nD τ).loc main_arg0) = Layout.block ⟨2, ![4096, 1024]⟩ ⟨2, ![4096, 4096]⟩ 1 4 c X)
    (hW : ∀ c : Dev nD, m ((c : Thread nD τ).loc main_arg1) = W)
    (ha : ∀ c : Dev nD, m ((c : Thread nD τ).loc main_arg2) = a) (hb : ∀ c : Dev nD, m ((c : Thread nD τ).loc main_arg3) = b)
    (c : Dev nD) : outBlock m c (sx m c) (sw m c) = Layout.block ⟨2, ![1024, 8192]⟩ ⟨2, ![4096, 8192]⟩ 0 4 c (refTerm X W a b) := by
  funext y
  obtain ⟨i, j, rfl⟩ : ∃ (i : Fin 1024) (j : Fin 8192), y = ix2 i j := ⟨y 0, y 1, (eq_ix2 y)⟩
  have hc : c.val < 4 := c.isLt
  have hrow : Layout.block ⟨2, ![1024, 8192]⟩ ⟨2, ![4096, 8192]⟩ 0 4 c (refTerm X W a b) (by decide) (ix2 i j)
      = refTerm X W a b (ix2 (⟨1024 * c.val + i.val, by omega⟩ : Fin 4096) j) := by
    refine congrArg (refTerm X W a b) (funext fun a => Fin.ext ?_)
    fin_cases a
    · show c.val * 1024 + i.val = 1024 * c.val + i.val; omega
    · rfl
  rw [hrow, refTerm_apply, gemm_blocks]
  rw [outBlock_apply]
  unfold fin
  rw [epi_apply, part_apply, oneOf_sx m c a (ha c), oneOf_sw m c b (hb c)]
  have hs : ∀ r : Dev nD, ∀ k : Fin 1024, xblk m r c (ix2 i k) * wblk m c r (j.val / 1024) (ix2 k (⟨j.val % 1024, Nat.mod_lt _ (by decide)⟩ : Fin 1024))
      = X (ix2 (⟨1024 * c.val + i.val, by omega⟩ : Fin 4096) (⟨1024 * r.val + k.val, by have : r.val < 4 := r.isLt; omega⟩ : Fin 4096))
        * W (ix2 (⟨1024 * r.val + k.val, by have : r.val < 4 := r.isLt; omega⟩ : Fin 4096) j) := by
    intro r k
    have hj : j.val / 1024 < 8 := by omega
    rw [xblk_apply, wblk_apply m c r (⟨j.val / 1024, hj⟩ : Fin 8), hX, hW]
    congr 1
    · refine congrArg X (funext fun a => Fin.ext ?_)
      fin_cases a
      · rfl
      · show r.val * 1024 + k.val = 1024 * r.val + k.val; omega
    · refine congrArg W (funext fun a => Fin.ext ?_)
      fin_cases a
      · rfl
      · show 1024 * (j.val / 1024) + j.val % 1024 = j.val; omega
  simp only [hs]
  rfl

end Cert.GemmProof

end
-- ==== Proof.Same.lean ====
/-
# The two printings of the kernel are one program

No rewrite was applied, so the kernel's program and the ideal one's are the same text under two namespaces.
-/
module

public import proofs.«01_k».proof.Proof.Gen.Kernel
public import proofs.«01_k».proof.Proof.Gen.KernelIdeal

@[expose] public section

noncomputable section

namespace Cert.GemmProof

open Idealize.ShloMosaic Idealize.SL.Sem

variable {F : FTy → Type} [FloatOps F]

set_option maxRecDepth 65536 in
set_option maxHeartbeats 2000000 in
/-- The two bodies are the same function. -/
theorem same_body : @Cert.Kernel.cc0_body F _ Cert.Kernel.Gen.facts = @Cert.KernelIdeal.cc0_body F _ Cert.KernelIdeal.Gen.facts := rfl

/-- The two body tables are the same. -/
theorem same_table : Cert.Kernel.defs₀ (F := F) = Cert.KernelIdeal.defs₀ (F := F) := by
  refine congrArg Defs.onTc (funext fun ℓ => funext fun a => ?_)
  match ℓ, a with
  | 0, (t, s) =>
    show Cert.Kernel.cc0_body _ _ _ _ _ _ _ _ _ _ _ _ _ _ _ _ _ _ _ _ _ = Cert.KernelIdeal.cc0_body _ _ _ _ _ _ _ _ _ _ _ _ _ _ _ _ _ _ _ _ _
    rw [same_body]

/-- The two tables with the region and the pipeline are the same. -/
theorem same_defs : Cert.Kernel.defs (F := F) = Cert.KernelIdeal.defs (F := F) := congrArg (Pipeline.defs Cert.KernelIdeal.pcfgs) same_table

/-- So the two programs' runs are the same. -/
theorem same_run (s : MemSt Cert.KernelIdeal.nD Cert.KernelIdeal.τ Cert.KernelIdeal.sig (Elt F)) (Q : _ → Prop) :
    θ_run (Cert.Kernel.defs (F := F)) (onTc (τ := Cert.Kernel.τ) (Cert.Kernel.main (F := F))) s Q
      = θ_run (Cert.KernelIdeal.defs (F := F)) (onTc (τ := Cert.KernelIdeal.τ) (Cert.KernelIdeal.main (F := F))) s Q :=
  congrArg (fun d => θ_run d (onTc (τ := Cert.KernelIdeal.τ) (Cert.KernelIdeal.main (F := F))) s Q) same_defs

end Cert.GemmProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Reference
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem Cert.GemmProof

/-- What every run of the machine ends with, over any float values: the arguments as they were, each device's result the
    block its body leaves, every semaphore at zero. -/
theorem machine {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_v1) = outBlock m c (sx m c) (sw m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun r h => ⟨fun c => ⟨((h.1 c).1 2).trans (final_out m c), (h.1 c).2.1.1, (h.1 c).2.1.2,
    ((h.1 c).1 0).trans (final_sx m c), ((h.1 c).1 1).trans (final_sw m c)⟩, h.2⟩) (run_main m g)

/-- The kernel over the extended reals runs, keeps its arguments, and leaves every semaphore at zero. -/
theorem frame_ideal : Cert.quiescent_KernelIdeal := fun m g _ =>
  (θ_run Cert.KernelIdeal.defs _ _).mono (fun _ h => ⟨fun c => (h.1 c).2, h.2⟩) (machine (F := Ideal) m g)

/-- The kernel over the words runs, keeps its arguments, and leaves every semaphore at zero: its text is the ideal one's. -/
theorem frame_kernel : Cert.quiescent_Kernel := fun m g _ =>
  (same_run (F := Bits) ⟨m, fun _ => 0, g⟩ _).mpr
    ((θ_run Cert.KernelIdeal.defs _ _).mono (fun _ h => ⟨fun c => (h.1 c).2, h.2⟩) (machine (F := Bits) m g))

/-- The reference runs, keeps its arguments, and has no semaphore. -/
theorem frame_reference : Cert.quiescent_ReferenceIdeal := fun m g _ =>
  (θ_run Cert.ReferenceIdeal.defs _ _).mono (fun _ h => ⟨fun c => (h c).2, funext fun q => by
    rcases q.2 with s | s <;> exact s.elim0⟩) (Cert.ReferenceIdeal.Value.run (F := Ideal) m g)

/-- Over the extended reals each device ends with its block of rows of the reference's result. -/
theorem equal : Cert.algebraic_KernelIdeal_ReferenceIdeal := fun m g m' g' _ hm =>
  ⟨refTerm (m' (Thread.loc (nD := Cert.ReferenceIdeal.nD) (τ := Cert.ReferenceIdeal.τ) (0 : Dev Cert.ReferenceIdeal.nD).tc Cert.ReferenceIdeal.main_arg0))
      (m' (Thread.loc (nD := Cert.ReferenceIdeal.nD) (τ := Cert.ReferenceIdeal.τ) (0 : Dev Cert.ReferenceIdeal.nD).tc Cert.ReferenceIdeal.main_arg1))
      (m' (Thread.loc (nD := Cert.ReferenceIdeal.nD) (τ := Cert.ReferenceIdeal.τ) (0 : Dev Cert.ReferenceIdeal.nD).tc Cert.ReferenceIdeal.main_arg2))
      (m' (Thread.loc (nD := Cert.ReferenceIdeal.nD) (τ := Cert.ReferenceIdeal.τ) (0 : Dev Cert.ReferenceIdeal.nD).tc Cert.ReferenceIdeal.main_arg3)),
    (θ_run Cert.KernelIdeal.defs _ _).mono (fun r h c => ⟨(h.1 c).1.trans
      (out_eq m _ _ _ _ (fun c => (hm c).1) (fun c => (hm c).2.1) (fun c => (hm c).2.2.1) (fun c => (hm c).2.2.2) c), (h.1 c).2⟩)
      (machine (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, equal⟩

end Cert.Proof

end
